-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x200x15x15 : Shape := ⟨4, ![1024, 200, 15, 15]⟩
abbrev S16x200x3x3 : Shape := ⟨4, ![16, 200, 3, 3]⟩
abbrev S16 : Shape := ⟨1, ![16]⟩
abbrev S32x16x5x5 : Shape := ⟨4, ![32, 16, 5, 5]⟩
abbrev S2x32 : Shape := ⟨2, ![2, 32]⟩
abbrev S2 : Shape := ⟨1, ![2]⟩
abbrev S9x8192 : Shape := ⟨2, ![9, 8192]⟩
abbrev S1024x200x225 : Shape := ⟨3, ![1024, 200, 225]⟩
abbrev S3x3x16x200 : Shape := ⟨4, ![3, 3, 16, 200]⟩
abbrev S144x200 : Shape := ⟨2, ![144, 200]⟩
abbrev S16x1 : Shape := ⟨2, ![16, 1]⟩
abbrev S5x32x5x16 : Shape := ⟨4, ![5, 32, 5, 16]⟩
abbrev S160x80 : Shape := ⟨2, ![160, 80]⟩
abbrev S8192x32 : Shape := ⟨2, ![8192, 32]⟩
abbrev S_ : Shape := ⟨0, ![]⟩
abbrev S2x1 : Shape := ⟨2, ![2, 1]⟩
abbrev S32x2x32 : Shape := ⟨3, ![32, 2, 32]⟩
abbrev S32x32x2 : Shape := ⟨3, ![32, 32, 2]⟩
abbrev S1024x2 : Shape := ⟨2, ![1024, 2]⟩
abbrev S32x200x225 : Shape := ⟨3, ![32, 200, 225]⟩
abbrev S1x2x32 : Shape := ⟨3, ![1, 2, 32]⟩
abbrev S144x31 : Shape := ⟨2, ![144, 31]⟩
abbrev S1x200x225 : Shape := ⟨3, ![1, 200, 225]⟩
abbrev S200x225 : Shape := ⟨2, ![200, 225]⟩
abbrev S144x225 : Shape := ⟨2, ![144, 225]⟩
abbrev S144x8192 : Shape := ⟨2, ![144, 8192]⟩
abbrev S16x8192 : Shape := ⟨2, ![16, 8192]⟩
abbrev S16x16 : Shape := ⟨2, ![16, 16]⟩
abbrev S16x8176 : Shape := ⟨2, ![16, 8176]⟩
abbrev S1x8192 : Shape := ⟨2, ![1, 8192]⟩
abbrev S16x15 : Shape := ⟨2, ![16, 15]⟩
abbrev S16x8177 : Shape := ⟨2, ![16, 8177]⟩
abbrev S16x14 : Shape := ⟨2, ![16, 14]⟩
abbrev S16x8178 : Shape := ⟨2, ![16, 8178]⟩
abbrev S16x8191 : Shape := ⟨2, ![16, 8191]⟩
abbrev S16x8190 : Shape := ⟨2, ![16, 8190]⟩
abbrev S16x2 : Shape := ⟨2, ![16, 2]⟩
abbrev S16x8162 : Shape := ⟨2, ![16, 8162]⟩
abbrev S16x30 : Shape := ⟨2, ![16, 30]⟩
abbrev S16x8188 : Shape := ⟨2, ![16, 8188]⟩
abbrev S16x4 : Shape := ⟨2, ![16, 4]⟩
abbrev S16x8186 : Shape := ⟨2, ![16, 8186]⟩
abbrev S16x6 : Shape := ⟨2, ![16, 6]⟩
abbrev S16x8184 : Shape := ⟨2, ![16, 8184]⟩
abbrev S16x8 : Shape := ⟨2, ![16, 8]⟩
abbrev S80x8192 : Shape := ⟨2, ![80, 8192]⟩
abbrev S160x8192 : Shape := ⟨2, ![160, 8192]⟩
abbrev S32x8192 : Shape := ⟨2, ![32, 8192]⟩
abbrev S32x8162 : Shape := ⟨2, ![32, 8162]⟩
abbrev S32x30 : Shape := ⟨2, ![32, 30]⟩
abbrev S32x8132 : Shape := ⟨2, ![32, 8132]⟩
abbrev S32x60 : Shape := ⟨2, ![32, 60]⟩
abbrev S32x8102 : Shape := ⟨2, ![32, 8102]⟩
abbrev S32x90 : Shape := ⟨2, ![32, 90]⟩
abbrev S32x8072 : Shape := ⟨2, ![32, 8072]⟩
abbrev S32x120 : Shape := ⟨2, ![32, 120]⟩
abbrev S32x8190 : Shape := ⟨2, ![32, 8190]⟩
abbrev S32x2 : Shape := ⟨2, ![32, 2]⟩
abbrev S32x8188 : Shape := ⟨2, ![32, 8188]⟩
abbrev S32x4 : Shape := ⟨2, ![32, 4]⟩
abbrev S32x32 : Shape := ⟨2, ![32, 32]⟩
abbrev S32 : Shape := ⟨1, ![32]⟩
abbrev S1x32 : Shape := ⟨2, ![1, 32]⟩

abbrev nBuf : Space → Nat
  | .hbm => 33
  | .vmem => 11
  | .smem => 0
  | _ => 0

abbrev bufTy : (tb : Table) → Fin (tcTables nBuf tb) → BufTy
  | .hbm, ⟨0, _⟩ => ⟨S1024x200x15x15, .f32⟩
  | .hbm, ⟨1, _⟩ => ⟨S16x200x3x3, .f32⟩
  | .hbm, ⟨2, _⟩ => ⟨S16, .f32⟩
  | .hbm, ⟨3, _⟩ => ⟨S32x16x5x5, .f32⟩
  | .hbm, ⟨4, _⟩ => ⟨S2x32, .f32⟩
  | .hbm, ⟨5, _⟩ => ⟨S2, .f32⟩
  | .hbm, ⟨6, _⟩ => ⟨S9x8192, .bf16⟩
  | .hbm, ⟨7, _⟩ => ⟨S1024x200x225, .f32⟩
  | .hbm, ⟨8, _⟩ => ⟨S3x3x16x200, .f32⟩
  | .hbm, ⟨9, _⟩ => ⟨S144x200, .f32⟩
  | .hbm, ⟨10, _⟩ => ⟨S144x200, .bf16⟩
  | .hbm, ⟨11, _⟩ => ⟨S16x1, .f32⟩
  | .hbm, ⟨12, _⟩ => ⟨S16x1, .bf16⟩
  | .hbm, ⟨13, _⟩ => ⟨S5x32x5x16, .f32⟩
  | .hbm, ⟨14, _⟩ => ⟨S160x80, .f32⟩
  | .hbm, ⟨15, _⟩ => ⟨S160x80, .bf16⟩
  | .hbm, ⟨16, _⟩ => ⟨S8192x32, .i32⟩
  | .hbm, ⟨17, _⟩ => ⟨S8192x32, .i32⟩
  | .hbm, ⟨18, _⟩ => ⟨S_, .i32⟩
  | .hbm, ⟨19, _⟩ => ⟨S8192x32, .i32⟩
  | .hbm, ⟨20, _⟩ => ⟨S8192x32, .i32⟩
  | .hbm, ⟨21, _⟩ => ⟨S8192x32, .i1⟩
  | .hbm, ⟨22, _⟩ => ⟨S_, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .bf16⟩
  | .hbm, ⟨28, _⟩ => ⟨S2x32, .bf16⟩
  | .hbm, ⟨29, _⟩ => ⟨S2x1, .f32⟩
  | .hbm, ⟨30, _⟩ => ⟨S32x2x32, .f32⟩
  | .hbm, ⟨31, _⟩ => ⟨S32x32x2, .f32⟩
  | .hbm, ⟨32, _⟩ => ⟨S1024x2, .f32⟩
  | .local _ .vmem, ⟨0, _⟩ => ⟨S32x200x225, .f32⟩
  | .local _ .vmem, ⟨1, _⟩ => ⟨S32x200x225, .f32⟩
  | .local _ .vmem, ⟨2, _⟩ => ⟨S144x200, .bf16⟩
  | .local _ .vmem, ⟨3, _⟩ => ⟨S16x1, .bf16⟩
  | .local _ .vmem, ⟨4, _⟩ => ⟨S9x8192, .bf16⟩
  | .local _ .vmem, ⟨5, _⟩ => ⟨S160x80, .bf16⟩
  | .local _ .vmem, ⟨6, _⟩ => ⟨S8192x32, .bf16⟩
  | .local _ .vmem, ⟨7, _⟩ => ⟨S2x32, .bf16⟩
  | .local _ .vmem, ⟨8, _⟩ => ⟨S2x1, .f32⟩
  | .local _ .vmem, ⟨9, _⟩ => ⟨S1x2x32, .f32⟩
  | .local _ .vmem, ⟨10, _⟩ => ⟨S1x2x32, .f32⟩
  | _, _ => ⟨S1024x200x15x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst_0 : Ref sig .tc := ⟨.hbm, 22, rfl⟩
abbrev main_call0_cst_1 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200x225 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x200x15x15 : Shape := ⟨4, ![1024, 200, 15, 15]⟩
abbrev S16x200x3x3 : Shape := ⟨4, ![16, 200, 3, 3]⟩
abbrev S16 : Shape := ⟨1, ![16]⟩
abbrev S32x16x5x5 : Shape := ⟨4, ![32, 16, 5, 5]⟩
abbrev S2x32 : Shape := ⟨2, ![2, 32]⟩
abbrev S2 : Shape := ⟨1, ![2]⟩
abbrev S_ : Shape := ⟨0, ![]⟩
abbrev S1024x200x17x17 : Shape := ⟨4, ![1024, 200, 17, 17]⟩
abbrev S16x200x1x1 : Shape := ⟨4, ![16, 200, 1, 1]⟩
abbrev S16x200 : Shape := ⟨2, ![16, 200]⟩
abbrev S1024x15x15x16 : Shape := ⟨4, ![1024, 15, 15, 16]⟩
abbrev S1024x16x15x15 : Shape := ⟨4, ![1024, 16, 15, 15]⟩
abbrev S1x16x1x1 : Shape := ⟨4, ![1, 16, 1, 1]⟩
abbrev S1024x16x7x7 : Shape := ⟨4, ![1024, 16, 7, 7]⟩
abbrev S32x16x1x1 : Shape := ⟨4, ![32, 16, 1, 1]⟩
abbrev S32x16 : Shape := ⟨2, ![32, 16]⟩
abbrev S1024x16x3x3 : Shape := ⟨4, ![1024, 16, 3, 3]⟩
abbrev S1024x3x3x32 : Shape := ⟨4, ![1024, 3, 3, 32]⟩
abbrev S1024x32x3x3 : Shape := ⟨4, ![1024, 32, 3, 3]⟩
abbrev S1024x32x1x1 : Shape := ⟨4, ![1024, 32, 1, 1]⟩
abbrev S1024x32 : Shape := ⟨2, ![1024, 32]⟩
abbrev S32x2 : Shape := ⟨2, ![32, 2]⟩
abbrev S1024x2 : Shape := ⟨2, ![1024, 2]⟩
abbrev S1x2 : Shape := ⟨2, ![1, 2]⟩
abbrev S1024 : Shape := ⟨1, ![1024]⟩
abbrev S1024x1 : Shape := ⟨2, ![1024, 1]⟩

abbrev nBuf : Space → Nat
  | .hbm => 246
  | .vmem => 0
  | .smem => 0
  | _ => 0

abbrev hbmTy0_0 (i : Nat) : BufTy := match i % 128 with
  | 0 => ⟨S1024x200x15x15, .f32⟩
  | 1 => ⟨S16x200x3x3, .f32⟩
  | 2 => ⟨S16, .f32⟩
  | 3 => ⟨S32x16x5x5, .f32⟩
  | 4 => ⟨S2x32, .f32⟩
  | 5 => ⟨S2, .f32⟩
  | 6 => ⟨S_, .i32⟩
  | 7 => ⟨S_, .f32⟩
  | 8 => ⟨S1024x200x17x17, .f32⟩
  | 9 => ⟨S16x200x1x1, .f32⟩
  | 10 => ⟨S16x200, .f32⟩
  | 11 => ⟨S1024x200x15x15, .f32⟩
  | 12 => ⟨S1024x15x15x16, .f32⟩
  | 13 => ⟨S1024x16x15x15, .f32⟩
  | 14 => ⟨S_, .f32⟩
  | 15 => ⟨S1024x16x15x15, .f32⟩
  | 16 => ⟨S1024x16x15x15, .f32⟩
  | 17 => ⟨S16x200x1x1, .f32⟩
  | 18 => ⟨S16x200, .f32⟩
  | 19 => ⟨S1024x200x15x15, .f32⟩
  | 20 => ⟨S1024x15x15x16, .f32⟩
  | 21 => ⟨S1024x16x15x15, .f32⟩
  | 22 => ⟨S1024x16x15x15, .f32⟩
  | 23 => ⟨S16x200x1x1, .f32⟩
  | 24 => ⟨S16x200, .f32⟩
  | 25 => ⟨S1024x200x15x15, .f32⟩
  | 26 => ⟨S1024x15x15x16, .f32⟩
  | 27 => ⟨S1024x16x15x15, .f32⟩
  | 28 => ⟨S1024x16x15x15, .f32⟩
  | 29 => ⟨S16x200x1x1, .f32⟩
  | 30 => ⟨S16x200, .f32⟩
  | 31 => ⟨S1024x200x15x15, .f32⟩
  | 32 => ⟨S1024x15x15x16, .f32⟩
  | 33 => ⟨S1024x16x15x15, .f32⟩
  | 34 => ⟨S1024x16x15x15, .f32⟩
  | 35 => ⟨S16x200x1x1, .f32⟩
  | 36 => ⟨S16x200, .f32⟩
  | 37 => ⟨S1024x200x15x15, .f32⟩
  | 38 => ⟨S1024x15x15x16, .f32⟩
  | 39 => ⟨S1024x16x15x15, .f32⟩
  | 40 => ⟨S1024x16x15x15, .f32⟩
  | 41 => ⟨S16x200x1x1, .f32⟩
  | 42 => ⟨S16x200, .f32⟩
  | 43 => ⟨S1024x200x15x15, .f32⟩
  | 44 => ⟨S1024x15x15x16, .f32⟩
  | 45 => ⟨S1024x16x15x15, .f32⟩
  | 46 => ⟨S1024x16x15x15, .f32⟩
  | 47 => ⟨S16x200x1x1, .f32⟩
  | 48 => ⟨S16x200, .f32⟩
  | 49 => ⟨S1024x200x15x15, .f32⟩
  | 50 => ⟨S1024x15x15x16, .f32⟩
  | 51 => ⟨S1024x16x15x15, .f32⟩
  | 52 => ⟨S1024x16x15x15, .f32⟩
  | 53 => ⟨S16x200x1x1, .f32⟩
  | 54 => ⟨S16x200, .f32⟩
  | 55 => ⟨S1024x200x15x15, .f32⟩
  | 56 => ⟨S1024x15x15x16, .f32⟩
  | 57 => ⟨S1024x16x15x15, .f32⟩
  | 58 => ⟨S1024x16x15x15, .f32⟩
  | 59 => ⟨S16x200x1x1, .f32⟩
  | 60 => ⟨S16x200, .f32⟩
  | 61 => ⟨S1024x200x15x15, .f32⟩
  | 62 => ⟨S1024x15x15x16, .f32⟩
  | 63 => ⟨S1024x16x15x15, .f32⟩
  | 64 => ⟨S1024x16x15x15, .f32⟩
  | 65 => ⟨S1x16x1x1, .f32⟩
  | 66 => ⟨S1024x16x15x15, .f32⟩
  | 67 => ⟨S1024x16x15x15, .f32⟩
  | 68 => ⟨S_, .f32⟩
  | 69 => ⟨S_, .f32⟩
  | 70 => ⟨S1024x16x7x7, .f32⟩
  | 71 => ⟨S32x16x1x1, .f32⟩
  | 72 => ⟨S32x16, .f32⟩
  | 73 => ⟨S1024x16x3x3, .f32⟩
  | 74 => ⟨S1024x3x3x32, .f32⟩
  | 75 => ⟨S1024x32x3x3, .f32⟩
  | 76 => ⟨S_, .f32⟩
  | 77 => ⟨S1024x32x3x3, .f32⟩
  | 78 => ⟨S1024x32x3x3, .f32⟩
  | 79 => ⟨S32x16x1x1, .f32⟩
  | 80 => ⟨S32x16, .f32⟩
  | 81 => ⟨S1024x16x3x3, .f32⟩
  | 82 => ⟨S1024x3x3x32, .f32⟩
  | 83 => ⟨S1024x32x3x3, .f32⟩
  | 84 => ⟨S1024x32x3x3, .f32⟩
  | 85 => ⟨S32x16x1x1, .f32⟩
  | 86 => ⟨S32x16, .f32⟩
  | 87 => ⟨S1024x16x3x3, .f32⟩
  | 88 => ⟨S1024x3x3x32, .f32⟩
  | 89 => ⟨S1024x32x3x3, .f32⟩
  | 90 => ⟨S1024x32x3x3, .f32⟩
  | 91 => ⟨S32x16x1x1, .f32⟩
  | 92 => ⟨S32x16, .f32⟩
  | 93 => ⟨S1024x16x3x3, .f32⟩
  | 94 => ⟨S1024x3x3x32, .f32⟩
  | 95 => ⟨S1024x32x3x3, .f32⟩
  | 96 => ⟨S1024x32x3x3, .f32⟩
  | 97 => ⟨S32x16x1x1, .f32⟩
  | 98 => ⟨S32x16, .f32⟩
  | 99 => ⟨S1024x16x3x3, .f32⟩
  | 100 => ⟨S1024x3x3x32, .f32⟩
  | 101 => ⟨S1024x32x3x3, .f32⟩
  | 102 => ⟨S1024x32x3x3, .f32⟩
  | 103 => ⟨S32x16x1x1, .f32⟩
  | 104 => ⟨S32x16, .f32⟩
  | 105 => ⟨S1024x16x3x3, .f32⟩
  | 106 => ⟨S1024x3x3x32, .f32⟩
  | 107 => ⟨S1024x32x3x3, .f32⟩
  | 108 => ⟨S1024x32x3x3, .f32⟩
  | 109 => ⟨S32x16x1x1, .f32⟩
  | 110 => ⟨S32x16, .f32⟩
  | 111 => ⟨S1024x16x3x3, .f32⟩
  | 112 => ⟨S1024x3x3x32, .f32⟩
  | 113 => ⟨S1024x32x3x3, .f32⟩
  | 114 => ⟨S1024x32x3x3, .f32⟩
  | 115 => ⟨S32x16x1x1, .f32⟩
  | 116 => ⟨S32x16, .f32⟩
  | 117 => ⟨S1024x16x3x3, .f32⟩
  | 118 => ⟨S1024x3x3x32, .f32⟩
  | 119 => ⟨S1024x32x3x3, .f32⟩
  | 120 => ⟨S1024x32x3x3, .f32⟩
  | 121 => ⟨S32x16x1x1, .f32⟩
  | 122 => ⟨S32x16, .f32⟩
  | 123 => ⟨S1024x16x3x3, .f32⟩
  | 124 => ⟨S1024x3x3x32, .f32⟩
  | 125 => ⟨S1024x32x3x3, .f32⟩
  | 126 => ⟨S1024x32x3x3, .f32⟩
  | 127 => ⟨S32x16x1x1, .f32⟩
  | _ => ⟨S1024x200x15x15, .f32⟩

abbrev hbmTy0_1 (i : Nat) : BufTy := match i % 128 with
  | 0 => ⟨S32x16, .f32⟩
  | 1 => ⟨S1024x16x3x3, .f32⟩
  | 2 => ⟨S1024x3x3x32, .f32⟩
  | 3 => ⟨S1024x32x3x3, .f32⟩
  | 4 => ⟨S1024x32x3x3, .f32⟩
  | 5 => ⟨S32x16x1x1, .f32⟩
  | 6 => ⟨S32x16, .f32⟩
  | 7 => ⟨S1024x16x3x3, .f32⟩
  | 8 => ⟨S1024x3x3x32, .f32⟩
  | 9 => ⟨S1024x32x3x3, .f32⟩
  | 10 => ⟨S1024x32x3x3, .f32⟩
  | 11 => ⟨S32x16x1x1, .f32⟩
  | 12 => ⟨S32x16, .f32⟩
  | 13 => ⟨S1024x16x3x3, .f32⟩
  | 14 => ⟨S1024x3x3x32, .f32⟩
  | 15 => ⟨S1024x32x3x3, .f32⟩
  | 16 => ⟨S1024x32x3x3, .f32⟩
  | 17 => ⟨S32x16x1x1, .f32⟩
  | 18 => ⟨S32x16, .f32⟩
  | 19 => ⟨S1024x16x3x3, .f32⟩
  | 20 => ⟨S1024x3x3x32, .f32⟩
  | 21 => ⟨S1024x32x3x3, .f32⟩
  | 22 => ⟨S1024x32x3x3, .f32⟩
  | 23 => ⟨S32x16x1x1, .f32⟩
  | 24 => ⟨S32x16, .f32⟩
  | 25 => ⟨S1024x16x3x3, .f32⟩
  | 26 => ⟨S1024x3x3x32, .f32⟩
  | 27 => ⟨S1024x32x3x3, .f32⟩
  | 28 => ⟨S1024x32x3x3, .f32⟩
  | 29 => ⟨S32x16x1x1, .f32⟩
  | 30 => ⟨S32x16, .f32⟩
  | 31 => ⟨S1024x16x3x3, .f32⟩
  | 32 => ⟨S1024x3x3x32, .f32⟩
  | 33 => ⟨S1024x32x3x3, .f32⟩
  | 34 => ⟨S1024x32x3x3, .f32⟩
  | 35 => ⟨S32x16x1x1, .f32⟩
  | 36 => ⟨S32x16, .f32⟩
  | 37 => ⟨S1024x16x3x3, .f32⟩
  | 38 => ⟨S1024x3x3x32, .f32⟩
  | 39 => ⟨S1024x32x3x3, .f32⟩
  | 40 => ⟨S1024x32x3x3, .f32⟩
  | 41 => ⟨S32x16x1x1, .f32⟩
  | 42 => ⟨S32x16, .f32⟩
  | 43 => ⟨S1024x16x3x3, .f32⟩
  | 44 => ⟨S1024x3x3x32, .f32⟩
  | 45 => ⟨S1024x32x3x3, .f32⟩
  | 46 => ⟨S1024x32x3x3, .f32⟩
  | 47 => ⟨S32x16x1x1, .f32⟩
  | 48 => ⟨S32x16, .f32⟩
  | 49 => ⟨S1024x16x3x3, .f32⟩
  | 50 => ⟨S1024x3x3x32, .f32⟩
  | 51 => ⟨S1024x32x3x3, .f32⟩
  | 52 => ⟨S1024x32x3x3, .f32⟩
  | 53 => ⟨S32x16x1x1, .f32⟩
  | 54 => ⟨S32x16, .f32⟩
  | 55 => ⟨S1024x16x3x3, .f32⟩
  | 56 => ⟨S1024x3x3x32, .f32⟩
  | 57 => ⟨S1024x32x3x3, .f32⟩
  | 58 => ⟨S1024x32x3x3, .f32⟩
  | 59 => ⟨S32x16x1x1, .f32⟩
  | 60 => ⟨S32x16, .f32⟩
  | 61 => ⟨S1024x16x3x3, .f32⟩
  | 62 => ⟨S1024x3x3x32, .f32⟩
  | 63 => ⟨S1024x32x3x3, .f32⟩
  | 64 => ⟨S1024x32x3x3, .f32⟩
  | 65 => ⟨S32x16x1x1, .f32⟩
  | 66 => ⟨S32x16, .f32⟩
  | 67 => ⟨S1024x16x3x3, .f32⟩
  | 68 => ⟨S1024x3x3x32, .f32⟩
  | 69 => ⟨S1024x32x3x3, .f32⟩
  | 70 => ⟨S1024x32x3x3, .f32⟩
  | 71 => ⟨S32x16x1x1, .f32⟩
  | 72 => ⟨S32x16, .f32⟩
  | 73 => ⟨S1024x16x3x3, .f32⟩
  | 74 => ⟨S1024x3x3x32, .f32⟩
  | 75 => ⟨S1024x32x3x3, .f32⟩
  | 76 => ⟨S1024x32x3x3, .f32⟩
  | 77 => ⟨S32x16x1x1, .f32⟩
  | 78 => ⟨S32x16, .f32⟩
  | 79 => ⟨S1024x16x3x3, .f32⟩
  | 80 => ⟨S1024x3x3x32, .f32⟩
  | 81 => ⟨S1024x32x3x3, .f32⟩
  | 82 => ⟨S1024x32x3x3, .f32⟩
  | 83 => ⟨S32x16x1x1, .f32⟩
  | 84 => ⟨S32x16, .f32⟩
  | 85 => ⟨S1024x16x3x3, .f32⟩
  | 86 => ⟨S1024x3x3x32, .f32⟩
  | 87 => ⟨S1024x32x3x3, .f32⟩
  | 88 => ⟨S1024x32x3x3, .f32⟩
  | 89 => ⟨S32x16x1x1, .f32⟩
  | 90 => ⟨S32x16, .f32⟩
  | 91 => ⟨S1024x16x3x3, .f32⟩
  | 92 => ⟨S1024x3x3x32, .f32⟩
  | 93 => ⟨S1024x32x3x3, .f32⟩
  | 94 => ⟨S1024x32x3x3, .f32⟩
  | 95 => ⟨S_, .f32⟩
  | 96 => ⟨S_, .f32⟩
  | 97 => ⟨S1024x32x1x1, .f32⟩
  | 98 => ⟨S1024x32, .f32⟩
  | 99 => ⟨S32x2, .f32⟩
  | 100 => ⟨S1024x2, .f32⟩
  | 101 => ⟨S1x2, .f32⟩
  | 102 => ⟨S1024x2, .f32⟩
  | 103 => ⟨S1024x2, .f32⟩
  | 104 => ⟨S_, .f32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x2, .f32⟩
  | 111 => ⟨S1024x2, .f32⟩
  | 112 => ⟨S1024x2, .f32⟩
  | 113 => ⟨S_, .f32⟩
  | 114 => ⟨S1024, .f32⟩
  | 115 => ⟨S1024x1, .f32⟩
  | 116 => ⟨S1024x2, .f32⟩
  | 117 => ⟨S1024x2, .f32⟩
  | _ => ⟨S1024x200x15x15, .f32⟩

abbrev hbmTy (i : Nat) : BufTy := match i / 128 with
  | 0 => hbmTy0_0 i
  | 1 => hbmTy0_1 i
  | _ => ⟨S1024x200x15x15, .f32⟩

abbrev bufTy : (tb : Table) → Fin (tcTables nBuf tb) → BufTy
  | .hbm, ⟨i, _⟩ => hbmTy i
  | _, _ => ⟨S1024x200x15x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_1 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_cst_2 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_cst_3 : Ref sig .tc := ⟨.hbm, 232, rfl⟩
abbrev main_v220 : Ref sig .tc := ⟨.hbm, 233, rfl⟩
abbrev main_cst_4 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_cst_5 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩

abbrev nD : Nat := 1
abbrev τ : Topo := Topo.v7x

variable {F : FTy → Type} [FloatOps F]
-- ==== Proof.Net.lean ====
/- The network on one image, as plain mathematics over the extended reals: a 3x3 convolution with zero padding and
   bias, a 3x3 maximum every other row and column, a 5x5 convolution, the maximum over the 3x3 results, a linear layer
   and the softmax of its two values. -/
module

public import Idealize.ShloMosaic.Lib.Pointwise

@[expose] public section

noncomputable section

namespace Cert.Net

open Idealize.ShloMosaic

/-- The maximum of a function over three consecutive columns. -/
def rowMax (f : ℕ → ℕ → EReal) (y x : ℕ) : EReal := max (max (f y x) (f y (x + 1))) (f y (x + 2))

/-- The maximum of a function over the 3x3 window whose corner is at row `2 y`, column `2 x`. -/
def pool (f : ℕ → ℕ → EReal) (y x : ℕ) : EReal :=
  max (max (rowMax f (2 * y) (2 * x)) (rowMax f (2 * y + 1) (2 * x))) (rowMax f (2 * y + 2) (2 * x))

section

variable (X : Fin 200 → ℕ → ℕ → EReal) (W1 : Fin 16 → Fin 200 → Fin 3 → Fin 3 → EReal) (b1 : Fin 16 → EReal)
  (W2 : Fin 32 → Fin 16 → Fin 5 → Fin 5 → EReal) (Wl : Fin 2 → Fin 32 → EReal) (bl : Fin 2 → EReal)

/-- The image read at row `y - 1`, column `x - 1`: zero on the border of one around it. -/
def padded (c : Fin 200) (y x : ℕ) : EReal :=
  if (1 ≤ y ∧ y ≤ 15) ∧ (1 ≤ x ∧ x ≤ 15) then X c (y - 1) (x - 1) else 0

/-- One of the nine weights of the first convolution, applied at row `y`, column `x`. -/
def tap (o : Fin 16) (i j : Fin 3) (y x : ℕ) : EReal := ∑ c, W1 o c i j * padded X c (y + i) (x + j)

/-- The first convolution. -/
def conv1 (o : Fin 16) (y x : ℕ) : EReal :=
  (∑ i, ∑ j, tap X W1 o i j y x) + b1 o

/-- The second convolution, on the pooled first. -/
def conv2 (o : Fin 32) (y x : ℕ) : EReal :=
  ∑ i : Fin 5, ∑ j : Fin 5, ∑ c, W2 o c i j * pool (conv1 X W1 b1 c) (y + i) (x + j)

/-- The linear layer on the pooled second convolution. -/
def logit (k : Fin 2) : EReal :=
  (∑ c, Wl k c * pool (conv2 X W1 b1 W2 c) 0 0) + bl k

end

/-- The exponential of a value less the larger of the two. -/
def expShift (f : Fin 2 → EReal) (k : Fin 2) : EReal := Ideal.exp (f k - max (f 0) (f 1))

/-- The softmax of two values. -/
def softmax (f : Fin 2 → EReal) (k : Fin 2) : EReal :=
  Ideal.div (expShift f k) (expShift f 0 + expShift f 1)

end Cert.Net

end
-- ==== Proof.Lanes.lean ====
/- Rows of 8192 lanes: reading at a row and a lane counted modulo 8192, the cyclic shift of the lanes written as two
   slices put together, a band of rows, a row spread over all rows and a column spread over all lanes. -/
module

public import Idealize.ShloMosaic.Lib.Pointwise

@[expose] public section

set_option maxRecDepth 16384

noncomputable section

namespace Cert.Net

open Idealize.ShloMosaic

/-- An array of `R` rows of 8192 elements. -/
abbrev Rows (R : ℕ) : Shape := ⟨2, ![R, 8192]⟩

variable {α : Type} {R : ℕ}

/-- Row `r` of the array at lane `p`, the lanes counted modulo 8192. -/
def rd (a : (Rows R).Idx → α) (r : Fin R) (p : ℕ) : α := a (ix2 r ⟨p % 8192, Nat.mod_lt _ (by norm_num)⟩)

/-- At a lane below 8192 the reading is the element there. -/
theorem rd_of_lt (a : (Rows R).Idx → α) (r : Fin R) (p : Fin 8192) : a (ix2 r p) = rd a r p.val := by
  unfold rd
  exact congrArg (fun q => a (ix2 r q)) (Fin.ext (Nat.mod_eq_of_lt p.isLt).symm)

/-- The lanes `k … k + l - 1` of all rows are lanes of the array. -/
abbrev Cut (R k l : ℕ) : Prop := (Rows R).Slices ![0, k] ⟨2, ![R, l]⟩

/-- `l` lanes and `k` lanes are all the lanes. -/
abbrev Joins (R l k : ℕ) : Prop := Shape.Concatenates [⟨2, ![R, l]⟩, ⟨2, ![R, k]⟩] (Rows R) 1

/-- The lanes shifted down by `k` cyclically: the last `l` lanes, then the first `k`. -/
def roll (l k : ℕ) (a : (Rows R).Idx → α) (h₁ : Cut R k l) (h₂ : Cut R 0 k) (h : Joins R l k) : (Rows R).Idx → α :=
  concatenate (Rows R) 1 [⟨⟨2, ![R, l]⟩, extractStridedSlice ⟨2, ![R, l]⟩ ![0, k] a h₁⟩,
    ⟨⟨2, ![R, k]⟩, extractStridedSlice ⟨2, ![R, k]⟩ ![0, 0] a h₂⟩] h

/-- The shifted array at lane `p` is the array at lane `p + k`. -/
theorem rd_roll (l k : ℕ) (a : (Rows R).Idx → α) (h₁ : Cut R k l) (h₂ : Cut R 0 k) (h : Joins R l k) (r : Fin R) (p : ℕ) :
    rd (roll l k a h₁ h₂ h) r p = rd a r (p + k) := by
  have hs : l + k = 8192 := by
    have := h.2.2
    simpa using this
  unfold rd roll
  by_cases hp : p % 8192 < l
  · refine (concatenate_pair_apply_left (t := Rows R) 1 _ _ h _ rfl (ix2 r ⟨p % 8192, hp⟩)
      (fun b => by match b with | ⟨0, _⟩ => rfl | ⟨1, _⟩ => rfl)).trans ?_
    refine extractStridedSlice_apply _ a h₁ _ _ fun b => ?_
    match b with
    | ⟨0, _⟩ => exact (Nat.zero_add _).symm
    | ⟨1, _⟩ => show (p + k) % 8192 = k + p % 8192; omega
  · have hl : p % 8192 - l < k := by omega
    refine (concatenate_pair_apply_right (t := Rows R) 1 _ _ h
      (ix2 r ⟨p % 8192, Nat.mod_lt _ (by norm_num)⟩) rfl rfl (ix2 r ⟨p % 8192 - l, hl⟩)
      (fun b hb => by
        match b, hb with
        | ⟨0, _⟩, _ => rfl
        | ⟨1, _⟩, hb => exact absurd rfl hb)
      (show p % 8192 - l + l = p % 8192 by omega)).trans ?_
    refine extractStridedSlice_apply _ a h₂ _ _ fun b => ?_
    match b with
    | ⟨0, _⟩ => exact (Nat.zero_add _).symm
    | ⟨1, _⟩ => show (p + k) % 8192 = 0 + (p % 8192 - l); omega

/-- The same of the shift spelt out. -/
theorem rd_shift (l k : ℕ) (a : (Rows R).Idx → α) (h₁ : Cut R k l) (h₂ : Cut R 0 k) (h : Joins R l k) (r : Fin R) (p : ℕ) :
    rd (concatenate (Rows R) 1 [⟨⟨2, ![R, l]⟩, extractStridedSlice ⟨2, ![R, l]⟩ ![0, k] a h₁⟩,
      ⟨⟨2, ![R, k]⟩, extractStridedSlice ⟨2, ![R, k]⟩ ![0, 0] a h₂⟩] h) r p = rd a r (p + k) :=
  rd_roll l k a h₁ h₂ h r p

/-- Rows `o … o + R' - 1` of an array: row `r` of the band is row `o + r` of the array. -/
theorem rd_band {R' : ℕ} (o : ℕ) (a : (Rows R).Idx → α) (h : (Rows R).Slices ![o, 0] (Rows R')) (r : Fin R') (p : ℕ) :
    rd (extractStridedSlice (Rows R') ![o, 0] a h) r p
      = rd a ⟨o + r.val, by have := h.2 0; have hr := r.isLt; change o + R' ≤ R at this; omega⟩ p := by
  unfold rd
  refine extractStridedSlice_apply _ a h _ _ fun b => ?_
  match b with
  | ⟨0, _⟩ => rfl
  | ⟨1, _⟩ => exact (Nat.zero_add _).symm

/-- One row spread over all rows. -/
theorem rd_row (v : (Rows 1).Idx → α) (h : (Rows 1).Broadcasts (Rows 16)) (r : Fin 16) (p : ℕ) :
    rd (broadcastTo (Rows 16) v h) r p = rd v 0 p := by
  unfold rd
  pointwise

/-- One column spread over all lanes. -/
theorem rd_col (v : (⟨2, ![16, 1]⟩ : Shape).Idx → α) (h : (⟨2, ![16, 1]⟩ : Shape).Broadcasts (Rows 16)) (r : Fin 16) (p : ℕ) :
    rd (broadcastTo (Rows 16) v h) r p = v (ix2 r 0) := by
  unfold rd
  pointwise

section Ideal

variable {φ : FTy}

/-- A sum of arrays is read term by term. -/
theorem rd_addf (a b : FVec Ideal (Rows R) φ) (r : Fin R) (p : ℕ) :
    rd (addf a b) r p = (rd a r p + rd b r p : EReal) := rfl

/-- A product of arrays is read factor by factor. -/
theorem rd_mulf (a b : FVec Ideal (Rows R) φ) (r : Fin R) (p : ℕ) :
    rd (mulf a b) r p = (rd a r p * rd b r p : EReal) := rfl

/-- A maximum of arrays is read term by term. -/
theorem rd_maximumf (a b : FVec Ideal (Rows R) φ) (r : Fin R) (p : ℕ) :
    rd (maximumf a b) r p = (max (rd a r p) (rd b r p) : EReal) := rfl

/-- The running maximum of an array with its shifts by `k₁` and `k₂`. -/
def max3 (l₁ k₁ l₂ k₂ : ℕ) (a : FVec Ideal (Rows R) φ)
    (h₁ : Cut R k₁ l₁) (h₂ : Cut R 0 k₁) (h : Joins R l₁ k₁) (h₁' : Cut R k₂ l₂) (h₂' : Cut R 0 k₂) (h' : Joins R l₂ k₂) : FVec Ideal (Rows R) φ :=
  maximumf (maximumf a (roll l₁ k₁ a h₁ h₂ h)) (roll l₂ k₂ a h₁' h₂' h')

/-- It is read as the maximum of the three readings. -/
theorem rd_max3 (l₁ k₁ l₂ k₂ : ℕ) (a : FVec Ideal (Rows R) φ)
    (h₁ : Cut R k₁ l₁) (h₂ : Cut R 0 k₁) (h : Joins R l₁ k₁) (h₁' : Cut R k₂ l₂) (h₂' : Cut R 0 k₂) (h' : Joins R l₂ k₂) (r : Fin R) (p : ℕ) :
    rd (max3 l₁ k₁ l₂ k₂ a h₁ h₂ h h₁' h₂' h') r p
      = (max (max (rd a r p) (rd a r (p + k₁))) (rd a r (p + k₂)) : EReal) := by
  unfold max3
  rw [rd_maximumf, rd_maximumf, rd_roll, rd_roll]

end Ideal

end Cert.Net

end
-- ==== Proof.KernelConv.lean ====
/- The kernel's first convolution and pooling, lane by lane: what the running sum of masked shifts and the maxima of
   shifts hold at a lane, in terms of the 144 rows of products. -/
module

public import proofs.«01_k».proof.Proof.Lanes
public import proofs.«01_k».proof.Proof.Gen.KernelIdeal.Skeleton

@[expose] public section

set_option maxRecDepth 16384

noncomputable section

namespace Cert.Net

open Idealize.ShloMosaic Cert.KernelIdeal Cert.KernelIdeal.Gen

variable (a : FVec Ideal S144x8192 .bf16) (b : FVec Ideal S16x1 .bf16) (s : FVec Ideal S16x8192 .bf16)
  (m0 m1 m2 m3 m4 m5 m6 m7 m8 : FVec Ideal S1x8192 .bf16)

/-- Row `16 t + o` of the products at lane `p`. -/
def prod (t : Fin 9) (o : Fin 16) (p : ℕ) : EReal := rd (R := 144) a ⟨16 * t.val + o.val, by omega⟩ p

/-- The bias and the first six masked shifts. -/
theorem rd_first (o : Fin 16) (p : ℕ) :
    rd (R := 16) (k0_pay34 a b m0 m1 m2 m3 m4 m5) o p =
      (b (ix2 o 0) + prod a 0 o (p + 8176) * rd (R := 1) m0 0 p + prod a 1 o (p + 8177) * rd (R := 1) m1 0 p
        + prod a 2 o (p + 8178) * rd (R := 1) m2 0 p + prod a 3 o (p + 8191) * rd (R := 1) m3 0 p
        + prod a 4 o p * rd (R := 1) m4 0 p + prod a 5 o (p + 1) * rd (R := 1) m5 0 p : EReal) := by
  unfold k0_pay34
  simp only [rd_addf, rd_mulf, rd_shift, rd_band, rd_row, rd_col, shapeCast_self]
  rfl

/-- The sum with the last three masked shifts. -/
def full : FVec Ideal S16x8192 .bf16 :=
  addf (addf (addf s
    (mulf (roll (R := 16) 8178 14 (k0_pay35 a) slices_S16x8192_o0_14_S16x8178 slices_S16x8192_o0_0_S16x14 concatenates_S16x8178_S16x14_S16x8192_d1)
      (broadcastTo S16x8192 m6 broadcasts_S1x8192_S16x8192)))
    (mulf (roll (R := 16) 8177 15 (extractStridedSlice S16x8192 ![112, 0] a slices_S144x8192_o112_0_S16x8192)
        slices_S16x8192_o0_15_S16x8177 slices_S16x8192_o0_0_S16x15 concatenates_S16x8177_S16x15_S16x8192_d1)
      (broadcastTo S16x8192 m7 broadcasts_S1x8192_S16x8192)))
    (mulf (roll (R := 16) 8176 16 (extractStridedSlice S16x8192 ![128, 0] a slices_S144x8192_o128_0_S16x8192)
        slices_S16x8192_o0_16_S16x8176 slices_S16x8192_o0_0_S16x16 concatenates_S16x8176_S16x16_S16x8192_d1)
      (broadcastTo S16x8192 m8 broadcasts_S1x8192_S16x8192))

/-- That sum at a lane. -/
theorem rd_full (o : Fin 16) (p : ℕ) :
    rd (R := 16) (full a s m6 m7 m8) o p =
      (rd (R := 16) s o p + prod a 6 o (p + 14) * rd (R := 1) m6 0 p + prod a 7 o (p + 15) * rd (R := 1) m7 0 p
        + prod a 8 o (p + 16) * rd (R := 1) m8 0 p : EReal) := by
  unfold full k0_pay35
  simp only [rd_addf, rd_mulf, rd_roll, rd_band, rd_row]
  rfl

/-- The maximum over three lanes, then over three lanes 15 apart. -/
def pooled : FVec Ideal S16x8192 .bf16 :=
  max3 (R := 16) 8177 15 8162 30
    (max3 (R := 16) 8191 1 8190 2 s slices_S16x8192_o0_1_S16x8191 slices_S16x8192_o0_0_S16x1 concatenates_S16x8191_S16x1_S16x8192_d1
      slices_S16x8192_o0_2_S16x8190 slices_S16x8192_o0_0_S16x2 concatenates_S16x8190_S16x2_S16x8192_d1)
    slices_S16x8192_o0_15_S16x8177 slices_S16x8192_o0_0_S16x15 concatenates_S16x8177_S16x15_S16x8192_d1
    slices_S16x8192_o0_30_S16x8162 slices_S16x8192_o0_0_S16x30 concatenates_S16x8162_S16x30_S16x8192_d1

/-- The five shifts by even numbers of lanes, one under the other. -/
def stacked : FVec Ideal S80x8192 .bf16 :=
  concatenate S80x8192 0 [⟨S16x8192, s⟩,
    ⟨S16x8192, roll (R := 16) 8190 2 s slices_S16x8192_o0_2_S16x8190 slices_S16x8192_o0_0_S16x2 concatenates_S16x8190_S16x2_S16x8192_d1⟩,
    ⟨S16x8192, roll (R := 16) 8188 4 s slices_S16x8192_o0_4_S16x8188 slices_S16x8192_o0_0_S16x4 concatenates_S16x8188_S16x4_S16x8192_d1⟩,
    ⟨S16x8192, roll (R := 16) 8186 6 s slices_S16x8192_o0_6_S16x8186 slices_S16x8192_o0_0_S16x6 concatenates_S16x8186_S16x6_S16x8192_d1⟩,
    ⟨S16x8192, roll (R := 16) 8184 8 s slices_S16x8192_o0_8_S16x8184 slices_S16x8192_o0_0_S16x8 concatenates_S16x8184_S16x8_S16x8192_d1⟩]
    concatenates_S16x8192_S16x8192_S16x8192_S16x8192_S16x8192_S80x8192_d0

/-- Rows `16 j + o` of the stack are the array shifted by `2 j`. -/
theorem rd_stacked (j : Fin 5) (o : Fin 16) (p : ℕ) :
    rd (R := 80) (stacked s) ⟨16 * j.val + o.val, by omega⟩ p = rd (R := 16) s o (p + 2 * j.val) := by
  have key : ∀ (k : ℕ) (hk : k < 5) (x : FVec Ideal S16x8192 .bf16) (xs : List ((s : Shape) × (s.Idx → EReal)))
      (h : Shape.Concatenates (xs.map (·.1)) S80x8192 0) (hl : k < xs.length) (hx : xs[k] = ⟨S16x8192, x⟩)
      (hpre : (((xs.take k).map (·.1)).map fun s =>
        if h : s.rank = S80x8192.rank then s.size ((0 : Fin S80x8192.rank).cast h.symm) else 0).sum = 16 * k),
      rd (R := 80) (concatenate S80x8192 0 xs h) ⟨16 * k + o.val, by omega⟩ p = rd (R := 16) x o p := by
    intro k hk x xs h hl hx hpre
    refine concatenate_apply_piece (t := S80x8192) 0 xs h _ k hl S16x8192 x hx rfl (16 * k) hpre
      (ix2 o ⟨p % 8192, Nat.mod_lt _ (by norm_num)⟩) (fun b hb => ?_) rfl
    match b, hb with
    | ⟨0, _⟩, hb => exact absurd rfl hb
    | ⟨1, _⟩, _ => rfl
  unfold stacked
  fin_cases j
  · exact key 0 (by norm_num) _ _ _ (by simp) rfl rfl
  · exact (key 1 (by norm_num) _ _ _ (by simp) rfl rfl).trans (rd_roll ..)
  · exact (key 2 (by norm_num) _ _ _ (by simp) rfl rfl).trans (rd_roll ..)
  · exact (key 3 (by norm_num) _ _ _ (by simp) rfl rfl).trans (rd_roll ..)
  · exact (key 4 (by norm_num) _ _ _ (by simp) rfl rfl).trans (rd_roll ..)

/-- The kernel's stack is the stack of the pooled sum. -/
theorem stack_eq : k0_pay36 a s (k0_pay35 a) m6 m7 m8 = stacked (pooled (full a s m6 m7 m8)) := rfl

end Cert.Net

end
-- ==== Proof.Result.lean ====
/- The network's result over the argument arrays: the two softmax values of each of the 1024 images. -/
module

public import proofs.«01_k».proof.Proof.Net

@[expose] public section

noncomputable section

namespace Cert.Net

open Idealize.ShloMosaic

/-- Image `n`'s channel `c` at row `y` and column `x`. -/
def img (A0 : (⟨4, ![1024, 200, 15, 15]⟩ : Shape).Idx → EReal) (n : Fin 1024) (c : Fin 200) (y x : ℕ) : EReal :=
  A0 (ix4 n c ⟨y % 15, Nat.mod_lt _ (by norm_num)⟩ ⟨x % 15, Nat.mod_lt _ (by norm_num)⟩)

/-- The network on image `n`, output `k`, over the arrays of images, weights and biases. -/
def net (A0 : (⟨4, ![1024, 200, 15, 15]⟩ : Shape).Idx → EReal) (A1 : (⟨4, ![16, 200, 3, 3]⟩ : Shape).Idx → EReal)
    (A2 : (⟨1, ![16]⟩ : Shape).Idx → EReal) (A3 : (⟨4, ![32, 16, 5, 5]⟩ : Shape).Idx → EReal)
    (A4 : (⟨2, ![2, 32]⟩ : Shape).Idx → EReal) (A5 : (⟨1, ![2]⟩ : Shape).Idx → EReal) (n : Fin 1024) (k : Fin 2) : EReal :=
  softmax (logit (img A0 n) (fun o c i j => A1 (ix4 o c i j)) (fun o => A2 (ix1 o)) (fun o c i j => A3 (ix4 o c i j))
    (fun k o => A4 (ix2 k o)) (fun k => A5 (ix1 k))) k

/-- The word of minus infinity. -/
theorem negInf_bits : Ideal.ofBits .f32 4286578688#32 = ⊥ := by
  simp [Ideal.ofBits, Ideal.ieee]

/-- The maximum of two values, taken from minus infinity. -/
theorem fold_two (f : Fin 2 → EReal) : Finset.univ.fold max (Ideal.ofBits .f32 4286578688#32) f = max (f 0) (f 1) := by
  have hu : (Finset.univ : Finset (Fin 2)) = {0, 1} := rfl
  rw [hu, Finset.fold_insert (by decide), Finset.fold_singleton, negInf_bits, max_eq_left (bot_le : ⊥ ≤ f 1)]

end Cert.Net

end
-- ==== Proof.KernelHead.lean ====
/- The kernel's second convolution and pooling, lane by lane, and its linear layer and softmax, entry by entry. -/
module

public import proofs.«01_k».proof.Proof.Lanes
public import proofs.«01_k».proof.Proof.Result
public import proofs.«01_k».proof.Proof.Gen.KernelIdeal.Skeleton

@[expose] public section

set_option maxRecDepth 16384

noncomputable section

namespace Cert.Net

open Idealize.ShloMosaic Cert.KernelIdeal Cert.KernelIdeal.Gen

/-- The 160 rows of products with the stack. -/
def bank (w : FVec Ideal S160x80 .bf16) (a : FVec Ideal S80x8192 .bf16) : FVec Ideal S160x8192 .bf16 :=
  truncf .bf16 (matmul dot_S160x80_S80x8192_S160x8192_1_0_0_1_n_n none w a (constant S160x8192 .f32 0x00000000#32)) bitsLt_bf16_f32

/-- They are sums over the 80 rows of the stack. -/
theorem rd_bank (w : FVec Ideal S160x80 .bf16) (a : FVec Ideal S80x8192 .bf16) (r : Fin 160) (p : ℕ) :
    rd (R := 160) (bank w a) r p = (∑ k : Fin 80, w (ix2 r k) * rd (R := 80) a k p : EReal) := by
  unfold rd bank
  pointwise

/-- The five bands of 32 rows, each shifted by 30 lanes more than the one before, added up. -/
def five (g : FVec Ideal S160x8192 .bf16) : FVec Ideal S32x8192 .bf16 :=
  addf (addf (addf (addf (extractStridedSlice S32x8192 ![0, 0] g slices_S160x8192_o0_0_S32x8192)
    (roll (R := 32) 8162 30 (extractStridedSlice S32x8192 ![32, 0] g slices_S160x8192_o32_0_S32x8192)
      slices_S32x8192_o0_30_S32x8162 slices_S32x8192_o0_0_S32x30 concatenates_S32x8162_S32x30_S32x8192_d1))
    (roll (R := 32) 8132 60 (extractStridedSlice S32x8192 ![64, 0] g slices_S160x8192_o64_0_S32x8192)
      slices_S32x8192_o0_60_S32x8132 slices_S32x8192_o0_0_S32x60 concatenates_S32x8132_S32x60_S32x8192_d1))
    (roll (R := 32) 8102 90 (extractStridedSlice S32x8192 ![96, 0] g slices_S160x8192_o96_0_S32x8192)
      slices_S32x8192_o0_90_S32x8102 slices_S32x8192_o0_0_S32x90 concatenates_S32x8102_S32x90_S32x8192_d1))
    (roll (R := 32) 8072 120 (extractStridedSlice S32x8192 ![128, 0] g slices_S160x8192_o128_0_S32x8192)
      slices_S32x8192_o0_120_S32x8072 slices_S32x8192_o0_0_S32x120 concatenates_S32x8072_S32x120_S32x8192_d1)

/-- That sum at a lane. -/
theorem rd_five (g : FVec Ideal S160x8192 .bf16) (o : Fin 32) (p : ℕ) :
    rd (R := 32) (five g) o p =
      (∑ i : Fin 5, rd (R := 160) g ⟨32 * i.val + o.val, by omega⟩ (p + 30 * i.val) : EReal) := by
  unfold five
  simp only [rd_addf, rd_roll, rd_band, Fin.sum_univ_five]
  rfl

/-- The maximum over three lanes 2 apart, then over three lanes 30 apart. -/
def pooled₂ (s : FVec Ideal S32x8192 .bf16) : FVec Ideal S32x8192 .bf16 :=
  max3 (R := 32) 8162 30 8132 60
    (max3 (R := 32) 8190 2 8188 4 s slices_S32x8192_o0_2_S32x8190 slices_S32x8192_o0_0_S32x2 concatenates_S32x8190_S32x2_S32x8192_d1
      slices_S32x8192_o0_4_S32x8188 slices_S32x8192_o0_0_S32x4 concatenates_S32x8188_S32x4_S32x8192_d1)
    slices_S32x8192_o0_30_S32x8162 slices_S32x8192_o0_0_S32x30 concatenates_S32x8162_S32x30_S32x8192_d1
    slices_S32x8192_o0_60_S32x8132 slices_S32x8192_o0_0_S32x60 concatenates_S32x8132_S32x60_S32x8192_d1

/-- The pooled values of the images' first lanes, multiplied by the weights of the linear layer, and its bias. -/
def lin (s : FVec Ideal S32x8192 .bf16) (sel : FVec Ideal S8192x32 .bf16) (wl : FVec Ideal S2x32 .bf16) (bl : FVec Ideal S2x1 .f32) :
    FVec Ideal S2x32 .f32 :=
  addf (matmul dot_S2x32_S32x32_S2x32_1_0_0_1_n_n none wl
    (truncf .bf16 (matmul dot_S32x8192_S8192x32_S32x32_1_0_0_1_n_n none s sel (constant S32x32 .f32 0x00000000#32)) bitsLt_bf16_f32 : FVec Ideal S32x32 .bf16)
    (constant S2x32 .f32 0x00000000#32)) (broadcastTo S2x32 bl broadcasts_S2x1_S2x32)

/-- The linear layer at an output and an image. -/
theorem lin_apply (s : FVec Ideal S32x8192 .bf16) (sel : FVec Ideal S8192x32 .bf16) (wl : FVec Ideal S2x32 .bf16) (bl : FVec Ideal S2x1 .f32)
    (k : Fin 2) (b : Fin 32) :
    lin s sel wl bl (ix2 k b)
      = ((∑ c : Fin 32, wl (ix2 k c) * ∑ p : Fin 8192, rd (R := 32) s c p.val * sel (ix2 p b)) + bl (ix2 k 0) : EReal) := by
  unfold lin
  simp only [← rd_of_lt]
  pointwise

/-- The kernel's linear layer is the linear layer of the pooled second convolution. -/
theorem lin_eq (a : FVec Ideal S80x8192 .bf16) (w : FVec Ideal S160x80 .bf16) (sel : FVec Ideal S8192x32 .bf16)
    (wl : FVec Ideal S2x32 .bf16) (bl : FVec Ideal S2x1 .f32) :
    addf (k0_pay37 a w sel wl) (k0_pay38 bl) = lin (pooled₂ (five (bank w a))) sel wl bl := by
  have h : addf (k0_pay37 a w sel wl) (k0_pay38 bl)
      = lin (pooled₂ (five (bank (shapeCast S160x80 w shapeCasts_S160x80_S160x80) a)))
        (shapeCast S8192x32 sel shapeCasts_S8192x32_S8192x32) (shapeCast S2x32 wl shapeCasts_S2x32_S2x32) (shapeCast S2x1 bl shapeCasts_S2x1_S2x1) := rfl
  rw [h, shapeCast_self, shapeCast_self, shapeCast_self, shapeCast_self]

/-- The kernel's softmax of a sum of two arrays, at an output and an image. -/
theorem softmax_apply (u v : FVec Ideal S2x32 .f32) (k : Fin 2) (b : Fin 32) :
    k0_pay1 u v (ix3 0 k b) = softmax (fun j => addf u v (ix2 j b)) k := by
  unfold k0_pay1 softmax expShift
  pointwise
  simp only [fold_two, Fin.sum_univ_two]

end Cert.Net

end
-- ==== Proof.KernelImage.lean ====
/- The kernel's lanes of one image, as the network's values there: the first convolution, its pooling, the second
   convolution, its pooling and the linear layer. -/
module

public import proofs.«01_k».proof.Proof.Net
public import proofs.«01_k».proof.Proof.KernelConv
public import proofs.«01_k».proof.Proof.KernelHead

@[expose] public section

set_option maxRecDepth 16384

noncomputable section

namespace Cert.Net

open Idealize.ShloMosaic Cert.KernelIdeal Cert.KernelIdeal.Gen

/-- Lanes counted modulo 8192. -/
theorem rd_mod {α : Type} {R : ℕ} (a : (Rows R).Idx → α) (r : Fin R) (p p' : ℕ) (h : p % 8192 = p' % 8192) : rd a r p = rd a r p' := by
  unfold rd
  simp only [h]

section

variable (X : Fin 200 → ℕ → ℕ → EReal) (W1 : Fin 16 → Fin 200 → Fin 3 → Fin 3 → EReal) (b1 : Fin 16 → EReal)
  (W2 : Fin 32 → Fin 16 → Fin 5 → Fin 5 → EReal) (Wl : Fin 2 → Fin 32 → EReal) (bl : Fin 2 → EReal) (b : Fin 32)

/-- The products hold, at the lanes of image `b`, the sums over the channels. -/
def Products (a : FVec Ideal S144x8192 .bf16) : Prop :=
  ∀ (t : Fin 9) (i j : Fin 3) (o : Fin 16) (y x : ℕ), t.val = 3 * i.val + j.val → y < 15 → x < 15 →
    prod a t o (256 * b.val + 15 * y + x) = ∑ c, W1 o c i j * X c y x

/-- The row of neighbour `i`, `j` holds one at the lanes of image `b` whose neighbour is inside, zero at the others. -/
def Marks (m : FVec Ideal S1x8192 .bf16) (i j : Fin 3) : Prop :=
  ∀ y x : ℕ, y < 15 → x < 15 →
    rd (R := 1) m 0 (256 * b.val + 15 * y + x)
      = (if (1 ≤ y + i ∧ y + i ≤ 15) ∧ (1 ≤ x + j ∧ x + j ≤ 15) then 1 else 0 : EReal)

variable {X W1 b1 W2 Wl bl b}

/-- A shifted row of products, masked, is one weight of the convolution applied. -/
theorem masked {a : FVec Ideal S144x8192 .bf16} {m : FVec Ideal S1x8192 .bf16} (t : Fin 9) (i j : Fin 3) (k : ℕ)
    (ha : Products X W1 b a) (hm : Marks b m i j) (ht : t.val = 3 * i.val + j.val) (hk : (k + 16) % 8192 = 15 * i.val + j.val)
    (o : Fin 16) (y x : ℕ) (hy : y < 15) (hx : x < 15) :
    (prod a t o (256 * b.val + 15 * y + x + k) * rd (R := 1) m 0 (256 * b.val + 15 * y + x) : EReal) = tap X W1 o i j y x := by
  have hb := b.isLt
  have hi := i.isLt
  have hj := j.isLt
  rw [hm y x hy hx]
  unfold tap padded
  by_cases h : (1 ≤ y + i ∧ y + i ≤ 15) ∧ (1 ≤ x + j ∧ x + j ≤ 15)
  · simp only [if_pos h, mul_one]
    rw [← ha t i j o (y + i - 1) (x + j - 1) ht (by omega) (by omega)]
    exact rd_mod _ _ _ _ (by omega)
  · simp only [if_neg h, mul_zero, Finset.sum_const_zero]

/-- The sum of the bias and the nine masked shifts is the first convolution. -/
theorem full_eq {a : FVec Ideal S144x8192 .bf16} {c : FVec Ideal S16x1 .bf16} {m0 m1 m2 m3 m4 m5 m6 m7 m8 : FVec Ideal S1x8192 .bf16}
    (ha : Products X W1 b a) (hc : ∀ o, c (ix2 o 0) = b1 o)
    (h0 : Marks b m0 0 0) (h1 : Marks b m1 0 1) (h2 : Marks b m2 0 2) (h3 : Marks b m3 1 0) (h4 : Marks b m4 1 1)
    (h5 : Marks b m5 1 2) (h6 : Marks b m6 2 0) (h7 : Marks b m7 2 1) (h8 : Marks b m8 2 2)
    (o : Fin 16) (y x : ℕ) (hy : y < 15) (hx : x < 15) :
    rd (R := 16) (full a (k0_pay34 a c m0 m1 m2 m3 m4 m5) m6 m7 m8) o (256 * b.val + 15 * y + x) = conv1 X W1 b1 o y x := by
  have h4' := masked 4 1 1 0 ha h4 rfl rfl o y x hy hx
  rw [Nat.add_zero] at h4'
  rw [rd_full, rd_first, hc, masked 0 0 0 8176 ha h0 rfl rfl o y x hy hx, masked 1 0 1 8177 ha h1 rfl rfl o y x hy hx,
    masked 2 0 2 8178 ha h2 rfl rfl o y x hy hx, masked 3 1 0 8191 ha h3 rfl rfl o y x hy hx, h4',
    masked 5 1 2 1 ha h5 rfl rfl o y x hy hx, masked 6 2 0 14 ha h6 rfl rfl o y x hy hx,
    masked 7 2 1 15 ha h7 rfl rfl o y x hy hx, masked 8 2 2 16 ha h8 rfl rfl o y x hy hx]
  unfold conv1
  simp only [Fin.sum_univ_three]
  abel

/-- Where an array holds `f` at the lanes of image `b`, its maxima hold the pooled `f`. -/
theorem pooled_eq {s : FVec Ideal S16x8192 .bf16} (f : Fin 16 → ℕ → ℕ → EReal)
    (hs : ∀ o y x, y < 15 → x < 15 → rd (R := 16) s o (256 * b.val + 15 * y + x) = f o y x)
    (o : Fin 16) (y x : ℕ) (hy : y < 7) (hx : x < 7) :
    rd (R := 16) (pooled s) o (256 * b.val + 30 * y + 2 * x) = pool (f o) y x := by
  unfold pooled pool rowMax
  simp only [rd_max3]
  rw [← hs o (2 * y) (2 * x) (by omega) (by omega), ← hs o (2 * y) (2 * x + 1) (by omega) (by omega),
    ← hs o (2 * y) (2 * x + 2) (by omega) (by omega), ← hs o (2 * y + 1) (2 * x) (by omega) (by omega),
    ← hs o (2 * y + 1) (2 * x + 1) (by omega) (by omega), ← hs o (2 * y + 1) (2 * x + 2) (by omega) (by omega),
    ← hs o (2 * y + 2) (2 * x) (by omega) (by omega), ← hs o (2 * y + 2) (2 * x + 1) (by omega) (by omega),
    ← hs o (2 * y + 2) (2 * x + 2) (by omega) (by omega)]
  ring_nf

/-- The bands of the products with the stack add up to the second convolution. -/
theorem five_eq {s : FVec Ideal S16x8192 .bf16} {w : FVec Ideal S160x80 .bf16} (g : Fin 16 → ℕ → ℕ → EReal)
    (hs : ∀ o y x, y < 7 → x < 7 → rd (R := 16) s o (256 * b.val + 30 * y + 2 * x) = g o y x)
    (hw : ∀ (o : Fin 32) (c : Fin 16) (i j : Fin 5),
      w (ix2 ⟨32 * i.val + o.val, by omega⟩ ⟨16 * j.val + c.val, by omega⟩) = W2 o c i j)
    (o : Fin 32) (y x : ℕ) (hy : y < 3) (hx : x < 3) :
    rd (R := 32) (five (bank w (stacked s))) o (256 * b.val + 30 * y + 2 * x)
      = (∑ i : Fin 5, ∑ j : Fin 5, ∑ c, W2 o c i j * g c (y + i) (x + j) : EReal) := by
  rw [rd_five]
  refine Finset.sum_congr rfl fun i _ => ?_
  rw [rd_bank]
  refine (Fin.sum_univ_tiles 5 16 rfl _).trans ?_
  refine Finset.sum_congr rfl fun j _ => Finset.sum_congr rfl fun c _ => ?_
  have hi := i.isLt
  have hj := j.isLt
  have e : (⟨j.val * 16 + c.val, by omega⟩ : Fin 80) = ⟨16 * j.val + c.val, by omega⟩ := Fin.ext (by simp only; omega)
  rw [e, hw, rd_stacked, ← hs c (y + i) (x + j) (by omega) (by omega)]
  ring_nf

/-- Where an array holds `f` at the lanes of image `b`, its maxima hold the pooled `f` at the first lane. -/
theorem pooled₂_eq {s : FVec Ideal S32x8192 .bf16} (f : Fin 32 → ℕ → ℕ → EReal)
    (hs : ∀ o y x, y < 3 → x < 3 → rd (R := 32) s o (256 * b.val + 30 * y + 2 * x) = f o y x) (o : Fin 32) :
    rd (R := 32) (pooled₂ s) o (256 * b.val) = pool (f o) 0 0 := by
  unfold pooled₂ pool rowMax
  simp only [rd_max3]
  have h := hs o
  rw [← h _ _ (by norm_num) (by norm_num), ← h _ _ (by norm_num) (by norm_num), ← h _ _ (by norm_num) (by norm_num),
    ← h _ _ (by norm_num) (by norm_num), ← h _ _ (by norm_num) (by norm_num), ← h _ _ (by norm_num) (by norm_num),
    ← h _ _ (by norm_num) (by norm_num), ← h _ _ (by norm_num) (by norm_num), ← h _ _ (by norm_num) (by norm_num)]
  rfl

/-- The linear layer reads each image at its first lane. -/
theorem lin_image {s : FVec Ideal S32x8192 .bf16} {sel : FVec Ideal S8192x32 .bf16} {wl : FVec Ideal S2x32 .bf16} {c : FVec Ideal S2x1 .f32}
    (u : Fin 32 → EReal) (hs : ∀ o, rd (R := 32) s o (256 * b.val) = u o)
    (hsel : ∀ p : Fin 8192, sel (ix2 p b) = (if p.val = 256 * b.val then 1 else 0 : EReal))
    (hwl : ∀ k o, wl (ix2 k o) = Wl k o) (hc : ∀ k, c (ix2 k 0) = bl k) (k : Fin 2) :
    lin s sel wl c (ix2 k b) = ((∑ o, Wl k o * u o) + bl k : EReal) := by
  rw [lin_apply, hc]
  congr 1
  refine Finset.sum_congr rfl fun o _ => ?_
  rw [hwl, ← hs o]
  congr 1
  have hb := b.isLt
  refine (Finset.sum_eq_single (⟨256 * b.val, by omega⟩ : Fin 8192) (fun p _ hp => ?_) (fun h => absurd (Finset.mem_univ _) h)).trans ?_
  · rw [hsel, if_neg (fun h => hp (Fin.ext h)), mul_zero]
  · rw [hsel, if_pos rfl, mul_one]

end

end Cert.Net

end
-- ==== Proof.Images.lean ====
/- Blocks of 225 lanes put side by side, each followed by 31 lanes of filling: the lane `256 b + q` of the whole is
   lane `q` of block `b`. -/
module

public import proofs.«01_k».proof.Proof.Lanes

@[expose] public section

set_option maxRecDepth 16384

noncomputable section

namespace Cert.Net

open Idealize.ShloMosaic

/-- 144 rows of one image's 225 positions. -/
abbrev Img : Shape := ⟨2, ![144, 225]⟩

/-- 144 rows of filling. -/
abbrev Fill : Shape := ⟨2, ![144, 31]⟩

variable {α : Type}

/-- The pieces: each block, then the filling. -/
def pieces (z : Fill.Idx → α) : List (Img.Idx → α) → List ((s : Shape) × (s.Idx → α))
  | [] => []
  | v :: l => ⟨Img, v⟩ :: ⟨Fill, z⟩ :: pieces z l

/-- Piece `2 b` is block `b`. -/
theorem pieces_get (z : Fill.Idx → α) (l : List (Img.Idx → α)) (b : ℕ) (hb : b < l.length) :
    ∃ h : 2 * b < (pieces z l).length, (pieces z l)[2 * b] = ⟨Img, l[b]⟩ := by
  induction l generalizing b with
  | nil => exact absurd hb (by simp)
  | cons v l ih =>
    match b with
    | 0 => exact ⟨by simp [pieces], rfl⟩
    | b + 1 =>
      obtain ⟨h, e⟩ := ih b (by simpa using hb)
      refine ⟨by simp only [pieces, List.length_cons]; omega, ?_⟩
      have : 2 * (b + 1) = 2 * b + 1 + 1 := by ring
      simp only [pieces, this, List.getElem_cons_succ]
      exact e

/-- The pieces before block `b` are `256 b` lanes wide. -/
theorem pieces_width (z : Fill.Idx → α) (l : List (Img.Idx → α)) (b : ℕ) (hb : b < l.length) :
    ((((pieces z l).take (2 * b)).map (·.1)).map fun s =>
      if h : s.rank = (Rows 144).rank then s.size ((1 : Fin (Rows 144).rank).cast h.symm) else 0).sum = 256 * b := by
  induction l generalizing b with
  | nil => exact absurd hb (by simp)
  | cons v l ih =>
    match b with
    | 0 => rfl
    | b + 1 =>
      have e := ih b (by simpa using hb)
      have h2 : 2 * (b + 1) = 2 * b + 1 + 1 := by ring
      simp only [pieces, h2, List.take_succ_cons, List.map_cons, List.sum_cons, e]
      show 225 + (31 + 256 * b) = 256 * (b + 1)
      omega

/-- Lane `256 b + q` of the whole is lane `q` of block `b`. -/
theorem rd_pieces (z : Fill.Idx → α) (l : List (Img.Idx → α))
    (h : Shape.Concatenates ((pieces z l).map (·.1)) (Rows 144) 1) (b : ℕ) (hb : b < l.length) (hb32 : b < 32)
    (k : Fin 144) (q : Fin 225) :
    rd (concatenate (Rows 144) 1 (pieces z l) h) k (256 * b + q.val) = l[b] (ix2 k q) := by
  obtain ⟨hk, e⟩ := pieces_get z l b hb
  have hq := q.isLt
  refine concatenate_apply_piece (t := Rows 144) 1 (pieces z l) h _ (2 * b) hk Img l[b] e rfl (256 * b)
    (pieces_width z l b hb) (ix2 k q) (fun a ha => ?_) ?_
  · match a, ha with
    | ⟨0, _⟩, _ => rfl
    | ⟨1, _⟩, ha => exact absurd rfl ha
  · show 256 * b + q.val = (256 * b + q.val) % 8192
    omega

end Cert.Net

end
-- ==== Proof.KernelBlocks.lean ====
/- The rows of products of the kernel's 32 images: the sum over the channels of weight times pixel. -/
module

public import proofs.«01_k».proof.Proof.Images
public import proofs.«01_k».proof.Proof.Gen.KernelIdeal.Frame

@[expose] public section

set_option maxRecDepth 16384

noncomputable section

namespace Cert.Net

open Idealize.ShloMosaic Cert.KernelIdeal Cert.KernelIdeal.Gen

/-- The products of one image. -/
def imgProd (w : FVec Ideal S144x200 .bf16) (x : FVec Ideal S1x200x225 .f32) : FVec Ideal S144x225 .bf16 :=
  truncf .bf16 (matmul dot_S144x200_S200x225_S144x225_1_0_0_1_n_n none w
    (truncf .bf16 (shapeCast S200x225 x shapeCasts_S1x200x225_S200x225) bitsLt_bf16_f32 : FVec Ideal S200x225 .bf16)
    (constant S144x225 .f32 0x00000000#32)) bitsLt_bf16_f32

/-- They are sums over the channels. -/
theorem imgProd_apply (w : FVec Ideal S144x200 .bf16) (x : FVec Ideal S1x200x225 .f32) (k : Fin 144) (q : Fin 225) :
    imgProd w x (ix2 k q) = (∑ c : Fin 200, w (ix2 k c) * x (ix3 0 c q) : EReal) := by
  unfold imgProd
  pointwise

/-- The products of all images, side by side. -/
def all (v : FVec Ideal S144x200 .bf16) (x : Fin 32 → FVec Ideal S1x200x225 .f32) : FVec Ideal S144x8192 .bf16 :=
  k0_pay32 (k0_pay2 v) (k0_pay3 (F := Ideal))
      (k0_pay4 v (x 0)) (k0_pay5 v (x 1)) (k0_pay6 v (x 2)) (k0_pay7 v (x 3)) (k0_pay8 v (x 4))
      (k0_pay10 (k0_pay9 v (x 5))) (k0_pay11 (k0_pay2 v) (x 6)) (k0_pay12 (k0_pay2 v) (x 7))
      (k0_pay13 (k0_pay2 v) (x 8)) (k0_pay14 (k0_pay2 v) (x 9)) (k0_pay15 (k0_pay2 v) (x 10))
      (k0_pay16 (k0_pay2 v) (x 11)) (k0_pay18 (k0_pay2 v) (k0_pay17 (x 12))) (k0_pay19 (k0_pay2 v) (x 13))
      (k0_pay20 (k0_pay2 v) (x 14)) (k0_pay21 (k0_pay2 v) (x 15)) (k0_pay22 (k0_pay2 v) (x 16))
      (k0_pay23 (k0_pay2 v) (x 17)) (k0_pay24 (k0_pay2 v) (x 18)) (k0_pay25 (k0_pay2 v) (x 19))
      (k0_pay26 (k0_pay2 v) (x 20)) (k0_pay27 (k0_pay2 v) (x 21)) (k0_pay28 (k0_pay2 v) (x 22))
      (k0_pay29 (k0_pay2 v) (x 23)) (k0_pay30 (k0_pay2 v) (x 24)) (k0_pay31 (k0_pay2 v) (x 25)) (x 26) (x 27) (x 28)
      (x 29) (x 30) (x 31)

/-- Lane `256 b + q` of the products of all images is lane `q` of the products of image `b`. -/
theorem rd_blocks (v : FVec Ideal S144x200 .bf16) (x : Fin 32 → FVec Ideal S1x200x225 .f32) (b : Fin 32) (k : Fin 144) (q : Fin 225) :
    rd (R := 144) (all v x) k (256 * b.val + q.val)
      = (∑ c : Fin 200, v (ix2 k c) * x b (ix3 0 c q) : EReal) := by
  have hv : k0_pay2 v = v := by
    unfold k0_pay2
    rw [shapeCast_self]
  have h : Shape.Concatenates ((pieces (k0_pay3 (F := Ideal)) (List.ofFn fun b => imgProd (k0_pay2 v) (x b))).map (·.1)) (Rows 144) 1 := by
    refine ⟨?_, ?_, ?_⟩ <;> simp [pieces]
  have e : all v x
      = concatenate (Rows 144) 1 (pieces (k0_pay3 (F := Ideal)) (List.ofFn fun b => imgProd (k0_pay2 v) (x b))) h := rfl
  rw [e, rd_pieces (k0_pay3 (F := Ideal)) (List.ofFn fun b => imgProd (k0_pay2 v) (x b)) h b.val (by simp) b.isLt k q]
  rw [List.getElem_ofFn, imgProd_apply, hv]

/-- The same of the kernel's block of 32 images. -/
theorem rd_products (x0 : FVec Ideal S32x200x225 .f32) (x1 : FVec Ideal S144x200 .bf16) (x2 : FVec Ideal S16x1 .bf16)
    (x3 : FVec Ideal S9x8192 .bf16) (x4 : FVec Ideal S160x80 .bf16) (x5 : FVec Ideal S8192x32 .bf16) (x6 : FVec Ideal S2x32 .bf16)
    (x7 : FVec Ideal S2x1 .f32) (b : Fin 32) (k : Fin 144) (q : Fin 225) :
    rd (R := 144) (α := EReal) (k0_pay40 (F := Ideal) x0 x1 x2 x3 x4 x5 x6 x7) k (256 * b.val + q.val)
      = (∑ c : Fin 200, x1 (ix2 k c) * x0 (ix3 b c q) : EReal) := by
  unfold k0_pay40 k0_pay39
  refine (rd_blocks _ ![_, _, _, _, _, _, _, _, _, _, _, _, _, _, _, _, _, _, _, _, _, _, _, _, _, _, _, _, _, _, _, _] b k q).trans ?_
  refine Finset.sum_congr rfl fun c _ => ?_
  congr 1
  · pointwise
  · fin_cases b <;> pointwise

end Cert.Net

end
-- ==== Proof.KernelBlock.lean ====
/- One grid step of the kernel: the block it stores holds the network's softmax of each of its 32 images. -/
module

public import proofs.«01_k».proof.Proof.KernelImage
public import proofs.«01_k».proof.Proof.KernelBlocks
public import Idealize.ShloMosaic.Lib.Pipeline.ValueKit

@[expose] public section

set_option maxRecDepth 16384

noncomputable section

namespace Cert.Net

open Idealize.ShloMosaic Cert.KernelIdeal Cert.KernelIdeal.Gen

variable {X : Fin 200 → ℕ → ℕ → EReal} {W1 : Fin 16 → Fin 200 → Fin 3 → Fin 3 → EReal} {b1 : Fin 16 → EReal}
  {W2 : Fin 32 → Fin 16 → Fin 5 → Fin 5 → EReal} {Wl : Fin 2 → Fin 32 → EReal} {bl : Fin 2 → EReal} {b : Fin 32}

/-- A row of the neighbour table marks the lanes of each image. -/
theorem marks_of {m : FVec Ideal S1x8192 .bf16} {x3 : FVec Ideal S9x8192 .bf16} (t : Fin 9) (i j : Fin 3)
    (h3 : ∀ (t : Fin 9) (i j : Fin 3) (y x : ℕ) (hy : y < 15) (hx : x < 15), t.val = 3 * i.val + j.val →
      x3 (ix2 t ⟨256 * b.val + 15 * y + x, by omega⟩)
        = (if (1 ≤ y + i ∧ y + i ≤ 15) ∧ (1 ≤ x + j ∧ x + j ≤ 15) then 1 else 0 : EReal))
    (hm : ∀ p, m (ix2 0 p) = x3 (ix2 t p)) (ht : t.val = 3 * i.val + j.val) : Marks b m i j := by
  intro y x hy hx
  have hb := b.isLt
  rw [← h3 t i j y x hy hx ht, ← hm]
  exact (rd_of_lt (R := 1) m 0 ⟨256 * b.val + 15 * y + x, by omega⟩).symm

/-- The block stored in one grid step. -/
theorem out_apply (x0 : FVec Ideal S32x200x225 .f32) (x1 : FVec Ideal S144x200 .bf16) (x2 : FVec Ideal S16x1 .bf16)
    (x3 : FVec Ideal S9x8192 .bf16) (x4 : FVec Ideal S160x80 .bf16) (x5 : FVec Ideal S8192x32 .bf16) (x6 : FVec Ideal S2x32 .bf16)
    (x7 : FVec Ideal S2x1 .f32)
    (h0 : ∀ c y x (hy : y < 15) (hx : x < 15), x0 (ix3 b c ⟨15 * y + x, by omega⟩) = X c y x)
    (h1 : ∀ (t : Fin 9) (i j : Fin 3) (o : Fin 16) c, t.val = 3 * i.val + j.val →
      x1 (ix2 ⟨16 * t.val + o.val, by omega⟩ c) = W1 o c i j)
    (h2 : ∀ o, x2 (ix2 o 0) = b1 o)
    (h3 : ∀ (t : Fin 9) (i j : Fin 3) (y x : ℕ) (hy : y < 15) (hx : x < 15), t.val = 3 * i.val + j.val →
      x3 (ix2 t ⟨256 * b.val + 15 * y + x, by omega⟩)
        = (if (1 ≤ y + i ∧ y + i ≤ 15) ∧ (1 ≤ x + j ∧ x + j ≤ 15) then 1 else 0 : EReal))
    (h4 : ∀ (o : Fin 32) (c : Fin 16) (i j : Fin 5),
      x4 (ix2 ⟨32 * i.val + o.val, by omega⟩ ⟨16 * j.val + c.val, by omega⟩) = W2 o c i j)
    (h5 : ∀ p : Fin 8192, x5 (ix2 p b) = (if p.val = 256 * b.val then 1 else 0 : EReal))
    (h6 : ∀ k o, x6 (ix2 k o) = Wl k o) (h7 : ∀ k, x7 (ix2 k 0) = bl k) (k : Fin 2) :
    out0_8 (F := Ideal) x0 x1 x2 x3 x4 x5 x6 x7 (ix3 0 k b) = softmax (logit X W1 b1 W2 Wl bl) k := by
  have hp : Products X W1 b (k0_pay40 (F := Ideal) x0 x1 x2 x3 x4 x5 x6 x7) := by
    intro t i j o y x ht hy hx
    have hq := rd_products x0 x1 x2 x3 x4 x5 x6 x7 b ⟨16 * t.val + o.val, by omega⟩ ⟨15 * y + x, by omega⟩
    unfold prod
    rw [Nat.add_assoc]
    refine hq.trans (Finset.sum_congr rfl fun c _ => ?_)
    rw [h1 t i j o c ht, h0 c y x hy hx]
  unfold out0_8
  frame_out
  refine (softmax_apply _ _ k b).trans ?_
  refine congrArg (fun f => softmax f k) (funext fun j => ?_)
  rw [lin_eq, stack_eq]
  unfold k0_pay33
  refine lin_image _ (fun o => pooled₂_eq _ (fun o y x hy hx => five_eq _ (fun o y x hy hx =>
    pooled_eq (conv1 X W1 b1) (fun o y x hy hx => full_eq hp ?_ (marks_of 0 0 0 h3 ?_ rfl) (marks_of 1 0 1 h3 ?_ rfl)
      (marks_of 2 0 2 h3 ?_ rfl) (marks_of 3 1 0 h3 ?_ rfl) (marks_of 4 1 1 h3 ?_ rfl) (marks_of 5 1 2 h3 ?_ rfl)
      (marks_of 6 2 0 h3 ?_ rfl) (marks_of 7 2 1 h3 ?_ rfl) (marks_of 8 2 2 h3 ?_ rfl) o y x hy hx) o y x hy hx)
      ?_ o y x hy hx) o) ?_ ?_ ?_ j
  · rw [shapeCast_self]
    exact h2
  iterate 9
    · intro p
      pointwise
  · exact h4
  · exact h5
  · exact h6
  · exact h7

end Cert.Net

end
-- ==== Proof.Entry.lean ====
/- What the kernel's region reads: its arrays at the start, over the argument arrays, and each grid point's blocks of
   them at coordinates. -/
module

public import proofs.«01_k».proof.Proof.Gen.KernelIdeal.Frame
public import Idealize.ShloMosaic.Lib.Pipeline.ValueKit
public import proofs.«01_k».proof.Proof.Result

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

variable (m : (ℓ : Loc nD τ sig) → Buf (Elt Ideal) ℓ)

/-- The windows' block indices. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] :=
  (by decide +kernel : ∀ t : Fin grid0.N, _)

/-- The images at the region's start: the argument with the two image axes made one. -/
theorem entry0 (c : Dev nD) : V m c main_call0_v0
    = shapeCast S1024x200x225 (m ((c : Thread nD τ).loc main_arg0)) shapeCasts_S1024x200x15x15_S1024x200x225 := rfl

/-- The first weights: the taps first, then the outputs, and the channels. -/
theorem entry1 (c : Dev nD) : V m c main_call0_v3
    = (truncf .bf16 (shapeCast S144x200 (transpose S3x3x16x200 [2, 3, 0, 1] (m ((c : Thread nD τ).loc main_arg1)) transposes_S16x200x3x3_S3x3x16x200_2_3_0_1 : FVec Ideal S3x3x16x200 .f32)
      shapeCasts_S3x3x16x200_S144x200 : FVec Ideal S144x200 .f32) bitsLt_bf16_f32 : FVec Ideal S144x200 .bf16) := rfl

/-- The first bias as a column. -/
theorem entry2 (c : Dev nD) : V m c main_call0_v5
    = (truncf .bf16 (shapeCast S16x1 (m ((c : Thread nD τ).loc main_arg2)) shapeCasts_S16_S16x1 : FVec Ideal S16x1 .f32) bitsLt_bf16_f32 : FVec Ideal S16x1 .bf16) := rfl

/-- The neighbour table. -/
theorem entry3 (c : Dev nD) : V m c main_call0_cst
    = ((fun i => Ideal.ofBits .bf16 (lit0 (S9x8192.rowMajor i))) : FVec Ideal S9x8192 .bf16) := rfl

/-- The second weights: window row and output, then window column and channel. -/
theorem entry4 (c : Dev nD) : V m c main_call0_v8
    = (truncf .bf16 (shapeCast S160x80 (transpose S5x32x5x16 [2, 0, 3, 1] (m ((c : Thread nD τ).loc main_arg3)) transposes_S32x16x5x5_S5x32x5x16_2_0_3_1 : FVec Ideal S5x32x5x16 .f32)
      shapeCasts_S5x32x5x16_S160x80 : FVec Ideal S160x80 .f32) bitsLt_bf16_f32 : FVec Ideal S160x80 .bf16) := rfl

/-- The first-lane table: one where the lane is 256 times the image, else zero. -/
theorem entry5 (c : Dev nD) : V m c main_call0_v15
    = (truncf .bf16 (select
        (cmpi .eq (iotaInDim S8192x32 32 0) (muli (broadcastInDim S8192x32 ![] bcast_S_S8192x32 (constantI S_ 32 256#32)) (iotaInDim S8192x32 32 1)))
        (broadcastInDim S8192x32 ![] bcast_S_S8192x32 (constant S_ .f32 0x3F800000#32))
        (broadcastInDim S8192x32 ![] bcast_S_S8192x32 (constant S_ .f32 0x00000000#32)) : FVec Ideal S8192x32 .f32) bitsLt_bf16_f32 : FVec Ideal S8192x32 .bf16) := rfl

/-- The weights of the linear layer. -/
theorem entry6 (c : Dev nD) : V m c main_call0_v16
    = (truncf .bf16 (m ((c : Thread nD τ).loc main_arg4) : FVec Ideal S2x32 .f32) bitsLt_bf16_f32 : FVec Ideal S2x32 .bf16) := rfl

/-- The bias of the linear layer as a column. -/
theorem entry7 (c : Dev nD) : V m c main_call0_v17
    = shapeCast S2x1 (m ((c : Thread nD τ).loc main_arg5)) shapeCasts_S2_S2x1 := rfl

/-- The images of a point's block. -/
theorem block0 (c : Dev nD) (t : Fin cfg0.N) (b : Fin 32) (ch : Fin 200) (y x : ℕ) (hy : y < 15) (hx : x < 15)
    (hn : 32 * t.val + b.val < 1024) :
    (show FVec Ideal S32x200x225 .f32 from iblk m c 0 t) (ix3 b ch ⟨15 * y + x, by omega⟩)
      = img (m ((c : Thread nD τ).loc main_arg0)) ⟨32 * t.val + b.val, hn⟩ ch y x := by
  show V m c main_call0_v0 (((cfg0.win 0).blk t).view.emb (ix3 b ch ⟨15 * y + x, by omega⟩)) = _
  rw [entry0]
  unfold img
  pointwise
  blk_ext [idx t]

/-- The first weights. -/
theorem block1 (c : Dev nD) (t : Fin cfg0.N) (u : Fin 9) (i j : Fin 3) (o : Fin 16) (ch : Fin 200) (hu : u.val = 3 * i.val + j.val) :
    (show FVec Ideal S144x200 .bf16 from iblk m c 1 t) (ix2 ⟨16 * u.val + o.val, by omega⟩ ch)
      = (show FVec Ideal S16x200x3x3 .f32 from m ((c : Thread nD τ).loc main_arg1)) (ix4 o ch i j) := by
  show V m c main_call0_v3 (((cfg0.win 1).blk t).view.emb (ix2 ⟨16 * u.val + o.val, by omega⟩ ch)) = _
  rw [entry1]
  pointwise
  blk_ext [idx t]

/-- The first bias. -/
theorem block2 (c : Dev nD) (t : Fin cfg0.N) (o : Fin 16) :
    (show FVec Ideal S16x1 .bf16 from iblk m c 2 t) (ix2 o 0)
      = (show FVec Ideal S16 .f32 from m ((c : Thread nD τ).loc main_arg2)) (ix1 o) := by
  show V m c main_call0_v5 (((cfg0.win 2).blk t).view.emb (ix2 o 0)) = _
  rw [entry2]
  pointwise
  blk_ext [idx t]

/-- The neighbour table. -/
theorem block3 (c : Dev nD) (t : Fin cfg0.N) (u : Fin 9) (p : Fin 8192) :
    (show FVec Ideal S9x8192 .bf16 from iblk m c 3 t) (ix2 u p)
      = Ideal.ofBits .bf16 (lit0 (S9x8192.rowMajor (ix2 u p))) := by
  show V m c main_call0_cst (((cfg0.win 3).blk t).view.emb (ix2 u p)) = _
  rw [entry3]
  refine congrArg (fun i => Ideal.ofBits .bf16 (lit0 (S9x8192.rowMajor i))) ?_
  blk_ext [idx t]

/-- The second weights. -/
theorem block4 (c : Dev nD) (t : Fin cfg0.N) (o : Fin 32) (ch : Fin 16) (i j : Fin 5) :
    (show FVec Ideal S160x80 .bf16 from iblk m c 4 t) (ix2 ⟨32 * i.val + o.val, by omega⟩ ⟨16 * j.val + ch.val, by omega⟩)
      = (show FVec Ideal S32x16x5x5 .f32 from m ((c : Thread nD τ).loc main_arg3)) (ix4 o ch i j) := by
  show V m c main_call0_v8 (((cfg0.win 4).blk t).view.emb (ix2 ⟨32 * i.val + o.val, by omega⟩ ⟨16 * j.val + ch.val, by omega⟩)) = _
  rw [entry4]
  pointwise
  blk_ext [idx t]

/-- The first-lane table. -/
theorem block5 (c : Dev nD) (t : Fin cfg0.N) (p : Fin 8192) (b : Fin 32) :
    (show FVec Ideal S8192x32 .bf16 from iblk m c 5 t) (ix2 p b) = (if p.val = 256 * b.val then 1 else 0 : EReal) := by
  show V m c main_call0_v15 (((cfg0.win 5).blk t).view.emb (ix2 p b)) = _
  have he : ((cfg0.win 5).blk t).view.emb (ix2 p b) = ix2 p b := by blk_ext [idx t]
  rw [entry5, he]
  pointwise
  have hp := p.isLt
  have hb := b.isLt
  have hw : (BitVec.ofNat 32 p.val = 256#32 * BitVec.ofNat 32 b.val) ↔ p.val = 256 * b.val := by
    rw [← BitVec.toNat_inj, BitVec.toNat_mul, BitVec.toNat_ofNat, BitVec.toNat_ofNat, BitVec.toNat_ofNat]
    omega
  by_cases h : p.val = 256 * b.val
  · rw [if_pos h]
    simp [Scalar.select, IntOp.cmpi, IntOp.muli, hw.mpr h]
  · rw [if_neg h]
    have hne : (BitVec.ofNat 32 p.val == 256#32 * BitVec.ofNat 32 b.val) = false := beq_eq_false_iff_ne.mpr (mt hw.mp h)
    simp [Scalar.select, IntOp.cmpi, IntOp.muli, hne]

/-- The weights of the linear layer. -/
theorem block6 (c : Dev nD) (t : Fin cfg0.N) (k : Fin 2) (o : Fin 32) :
    (show FVec Ideal S2x32 .bf16 from iblk m c 6 t) (ix2 k o)
      = (show FVec Ideal S2x32 .f32 from m ((c : Thread nD τ).loc main_arg4)) (ix2 k o) := by
  show V m c main_call0_v16 (((cfg0.win 6).blk t).view.emb (ix2 k o)) = _
  rw [entry6]
  pointwise
  blk_ext [idx t]

/-- The bias of the linear layer. -/
theorem block7 (c : Dev nD) (t : Fin cfg0.N) (k : Fin 2) :
    (show FVec Ideal S2x1 .f32 from iblk m c 7 t) (ix2 k 0)
      = (show FVec Ideal S2 .f32 from m ((c : Thread nD τ).loc main_arg5)) (ix1 k) := by
  show V m c main_call0_v17 (((cfg0.win 7).blk t).view.emb (ix2 k 0)) = _
  rw [entry7]
  pointwise
  blk_ext [idx t]

end Cert.Net

end
-- ==== Proof.Pick.lean ====
/- A table cut by its index's last digit in base 128: the choice among 128 entries, read at a digit. -/
module

public import Idealize.ShloMosaic.Lib.Pointwise

@[expose] public section

set_option maxRecDepth 100000

namespace Cert.Net

/-- The choice among 128 entries by the number `x`. -/
@[reducible] def pick (x : Nat) (
    c0 c1 c2 c3 c4 c5 c6 c7 c8 c9 c10 c11 c12 c13 c14 c15 c16 c17 c18 c19 c20 c21 c22 c23 c24 c25 c26 c27 c28 c29 c30
    c31 c32 c33 c34 c35 c36 c37 c38 c39 c40 c41 c42 c43 c44 c45 c46 c47 c48 c49 c50 c51 c52 c53 c54 c55 c56 c57 c58
    c59 c60 c61 c62 c63 c64 c65 c66 c67 c68 c69 c70 c71 c72 c73 c74 c75 c76 c77 c78 c79 c80 c81 c82 c83 c84 c85 c86
    c87 c88 c89 c90 c91 c92 c93 c94 c95 c96 c97 c98 c99 c100 c101 c102 c103 c104 c105 c106 c107 c108 c109 c110 c111
    c112 c113 c114 c115 c116 c117 c118 c119 c120 c121 c122 c123 c124 c125 c126 c127 : BitVec 16) (d : BitVec 16) : BitVec 16 :=
  match x with
    | 0 => c0 | 1 => c1 | 2 => c2 | 3 => c3 | 4 => c4 | 5 => c5 | 6 => c6 | 7 => c7 | 8 => c8 | 9 => c9 | 10 => c10
    | 11 => c11 | 12 => c12 | 13 => c13 | 14 => c14 | 15 => c15 | 16 => c16 | 17 => c17 | 18 => c18 | 19 => c19
    | 20 => c20 | 21 => c21 | 22 => c22 | 23 => c23 | 24 => c24 | 25 => c25 | 26 => c26 | 27 => c27 | 28 => c28
    | 29 => c29 | 30 => c30 | 31 => c31 | 32 => c32 | 33 => c33 | 34 => c34 | 35 => c35 | 36 => c36 | 37 => c37
    | 38 => c38 | 39 => c39 | 40 => c40 | 41 => c41 | 42 => c42 | 43 => c43 | 44 => c44 | 45 => c45 | 46 => c46
    | 47 => c47 | 48 => c48 | 49 => c49 | 50 => c50 | 51 => c51 | 52 => c52 | 53 => c53 | 54 => c54 | 55 => c55
    | 56 => c56 | 57 => c57 | 58 => c58 | 59 => c59 | 60 => c60 | 61 => c61 | 62 => c62 | 63 => c63 | 64 => c64
    | 65 => c65 | 66 => c66 | 67 => c67 | 68 => c68 | 69 => c69 | 70 => c70 | 71 => c71 | 72 => c72 | 73 => c73
    | 74 => c74 | 75 => c75 | 76 => c76 | 77 => c77 | 78 => c78 | 79 => c79 | 80 => c80 | 81 => c81 | 82 => c82
    | 83 => c83 | 84 => c84 | 85 => c85 | 86 => c86 | 87 => c87 | 88 => c88 | 89 => c89 | 90 => c90 | 91 => c91
    | 92 => c92 | 93 => c93 | 94 => c94 | 95 => c95 | 96 => c96 | 97 => c97 | 98 => c98 | 99 => c99 | 100 => c100
    | 101 => c101 | 102 => c102 | 103 => c103 | 104 => c104 | 105 => c105 | 106 => c106 | 107 => c107 | 108 => c108
    | 109 => c109 | 110 => c110 | 111 => c111 | 112 => c112 | 113 => c113 | 114 => c114 | 115 => c115 | 116 => c116
    | 117 => c117 | 118 => c118 | 119 => c119 | 120 => c120 | 121 => c121 | 122 => c122 | 123 => c123 | 124 => c124
    | 125 => c125 | 126 => c126 | 127 => c127 | _ => d

/-- The choice is the entry of the list of all of them. -/
theorem pick_eq (x : Nat) (hx : x < 128) (
    c0 c1 c2 c3 c4 c5 c6 c7 c8 c9 c10 c11 c12 c13 c14 c15 c16 c17 c18 c19 c20 c21 c22 c23 c24 c25 c26 c27 c28 c29 c30
    c31 c32 c33 c34 c35 c36 c37 c38 c39 c40 c41 c42 c43 c44 c45 c46 c47 c48 c49 c50 c51 c52 c53 c54 c55 c56 c57 c58
    c59 c60 c61 c62 c63 c64 c65 c66 c67 c68 c69 c70 c71 c72 c73 c74 c75 c76 c77 c78 c79 c80 c81 c82 c83 c84 c85 c86
    c87 c88 c89 c90 c91 c92 c93 c94 c95 c96 c97 c98 c99 c100 c101 c102 c103 c104 c105 c106 c107 c108 c109 c110 c111
    c112 c113 c114 c115 c116 c117 c118 c119 c120 c121 c122 c123 c124 c125 c126 c127 : BitVec 16) (d : BitVec 16) :
    pick x
      c0 c1 c2 c3 c4 c5 c6 c7 c8 c9 c10 c11 c12 c13 c14 c15 c16 c17 c18 c19 c20 c21 c22 c23 c24 c25 c26 c27 c28 c29
      c30 c31 c32 c33 c34 c35 c36 c37 c38 c39 c40 c41 c42 c43 c44 c45 c46 c47 c48 c49 c50 c51 c52 c53 c54 c55 c56 c57
      c58 c59 c60 c61 c62 c63 c64 c65 c66 c67 c68 c69 c70 c71 c72 c73 c74 c75 c76 c77 c78 c79 c80 c81 c82 c83 c84 c85
      c86 c87 c88 c89 c90 c91 c92 c93 c94 c95 c96 c97 c98 c99 c100 c101 c102 c103 c104 c105 c106 c107 c108 c109 c110
      c111 c112 c113 c114 c115 c116 c117 c118 c119 c120 c121 c122 c123 c124 c125 c126 c127 d =
    [
      c0, c1, c2, c3, c4, c5, c6, c7, c8, c9, c10, c11, c12, c13, c14, c15, c16, c17, c18, c19, c20, c21, c22, c23,
      c24, c25, c26, c27, c28, c29, c30, c31, c32, c33, c34, c35, c36, c37, c38, c39, c40, c41, c42, c43, c44, c45,
      c46, c47, c48, c49, c50, c51, c52, c53, c54, c55, c56, c57, c58, c59, c60, c61, c62, c63, c64, c65, c66, c67,
      c68, c69, c70, c71, c72, c73, c74, c75, c76, c77, c78, c79, c80, c81, c82, c83, c84, c85, c86, c87, c88, c89,
      c90, c91, c92, c93, c94, c95, c96, c97, c98, c99, c100, c101, c102, c103, c104, c105, c106, c107, c108, c109,
      c110, c111, c112, c113, c114, c115, c116, c117, c118, c119, c120, c121, c122, c123, c124, c125, c126, c127].getD x d := by
  interval_cases x <;> rfl

/-- The choice follows the rule `f` where the entries do. -/
theorem pick_of_list (f : Nat → BitVec 16) (x : Nat) (hx : x < 128) {
    c0 c1 c2 c3 c4 c5 c6 c7 c8 c9 c10 c11 c12 c13 c14 c15 c16 c17 c18 c19 c20 c21 c22 c23 c24 c25 c26 c27 c28 c29 c30
    c31 c32 c33 c34 c35 c36 c37 c38 c39 c40 c41 c42 c43 c44 c45 c46 c47 c48 c49 c50 c51 c52 c53 c54 c55 c56 c57 c58
    c59 c60 c61 c62 c63 c64 c65 c66 c67 c68 c69 c70 c71 c72 c73 c74 c75 c76 c77 c78 c79 c80 c81 c82 c83 c84 c85 c86
    c87 c88 c89 c90 c91 c92 c93 c94 c95 c96 c97 c98 c99 c100 c101 c102 c103 c104 c105 c106 c107 c108 c109 c110 c111
    c112 c113 c114 c115 c116 c117 c118 c119 c120 c121 c122 c123 c124 c125 c126 c127 : BitVec 16} {d : BitVec 16}
    (h : [
      c0, c1, c2, c3, c4, c5, c6, c7, c8, c9, c10, c11, c12, c13, c14, c15, c16, c17, c18, c19, c20, c21, c22, c23,
      c24, c25, c26, c27, c28, c29, c30, c31, c32, c33, c34, c35, c36, c37, c38, c39, c40, c41, c42, c43, c44, c45,
      c46, c47, c48, c49, c50, c51, c52, c53, c54, c55, c56, c57, c58, c59, c60, c61, c62, c63, c64, c65, c66, c67,
      c68, c69, c70, c71, c72, c73, c74, c75, c76, c77, c78, c79, c80, c81, c82, c83, c84, c85, c86, c87, c88, c89,
      c90, c91, c92, c93, c94, c95, c96, c97, c98, c99, c100, c101, c102, c103, c104, c105, c106, c107, c108, c109,
      c110, c111, c112, c113, c114, c115, c116, c117, c118, c119, c120, c121, c122, c123, c124, c125, c126, c127] = (List.range 128).map f) :
    pick x
      c0 c1 c2 c3 c4 c5 c6 c7 c8 c9 c10 c11 c12 c13 c14 c15 c16 c17 c18 c19 c20 c21 c22 c23 c24 c25 c26 c27 c28 c29
      c30 c31 c32 c33 c34 c35 c36 c37 c38 c39 c40 c41 c42 c43 c44 c45 c46 c47 c48 c49 c50 c51 c52 c53 c54 c55 c56 c57
      c58 c59 c60 c61 c62 c63 c64 c65 c66 c67 c68 c69 c70 c71 c72 c73 c74 c75 c76 c77 c78 c79 c80 c81 c82 c83 c84 c85
      c86 c87 c88 c89 c90 c91 c92 c93 c94 c95 c96 c97 c98 c99 c100 c101 c102 c103 c104 c105 c106 c107 c108 c109 c110
      c111 c112 c113 c114 c115 c116 c117 c118 c119 c120 c121 c122 c123 c124 c125 c126 c127 d = f x := by
  rw [pick_eq x hx, h]
  simp [hx]

/-- The entries of a list follow the rule `f`, counting from `k`. -/
def Each (f : Nat → BitVec 16) : Nat → List (BitVec 16) → Prop
  | _, [] => True
  | k, c :: l => c = f k ∧ Each f (k + 1) l

/-- Such a list is the list of the rule's values. -/
theorem Each.eq_map (f : Nat → BitVec 16) (l : List (BitVec 16)) (k : Nat) (h : Each f k l) :
    l = (List.range' k l.length).map f := by
  induction l generalizing k with
  | nil => rfl
  | cons c l ih =>
    rw [List.length_cons, List.range'_succ, List.map_cons, ← ih (k + 1) h.2, h.1]

/-- The same, the entries compared with the rule one at a time. -/
theorem pick_of_each (f : Nat → BitVec 16) (x : Nat) (hx : x < 128) {
    c0 c1 c2 c3 c4 c5 c6 c7 c8 c9 c10 c11 c12 c13 c14 c15 c16 c17 c18 c19 c20 c21 c22 c23 c24 c25 c26 c27 c28 c29 c30
    c31 c32 c33 c34 c35 c36 c37 c38 c39 c40 c41 c42 c43 c44 c45 c46 c47 c48 c49 c50 c51 c52 c53 c54 c55 c56 c57 c58
    c59 c60 c61 c62 c63 c64 c65 c66 c67 c68 c69 c70 c71 c72 c73 c74 c75 c76 c77 c78 c79 c80 c81 c82 c83 c84 c85 c86
    c87 c88 c89 c90 c91 c92 c93 c94 c95 c96 c97 c98 c99 c100 c101 c102 c103 c104 c105 c106 c107 c108 c109 c110 c111
    c112 c113 c114 c115 c116 c117 c118 c119 c120 c121 c122 c123 c124 c125 c126 c127 : BitVec 16} {d : BitVec 16}
    (h : Each f 0 [
      c0, c1, c2, c3, c4, c5, c6, c7, c8, c9, c10, c11, c12, c13, c14, c15, c16, c17, c18, c19, c20, c21, c22, c23,
      c24, c25, c26, c27, c28, c29, c30, c31, c32, c33, c34, c35, c36, c37, c38, c39, c40, c41, c42, c43, c44, c45,
      c46, c47, c48, c49, c50, c51, c52, c53, c54, c55, c56, c57, c58, c59, c60, c61, c62, c63, c64, c65, c66, c67,
      c68, c69, c70, c71, c72, c73, c74, c75, c76, c77, c78, c79, c80, c81, c82, c83, c84, c85, c86, c87, c88, c89,
      c90, c91, c92, c93, c94, c95, c96, c97, c98, c99, c100, c101, c102, c103, c104, c105, c106, c107, c108, c109,
      c110, c111, c112, c113, c114, c115, c116, c117, c118, c119, c120, c121, c122, c123, c124, c125, c126, c127]) :
    pick x
      c0 c1 c2 c3 c4 c5 c6 c7 c8 c9 c10 c11 c12 c13 c14 c15 c16 c17 c18 c19 c20 c21 c22 c23 c24 c25 c26 c27 c28 c29 c30
      c31 c32 c33 c34 c35 c36 c37 c38 c39 c40 c41 c42 c43 c44 c45 c46 c47 c48 c49 c50 c51 c52 c53 c54 c55 c56 c57 c58
      c59 c60 c61 c62 c63 c64 c65 c66 c67 c68 c69 c70 c71 c72 c73 c74 c75 c76 c77 c78 c79 c80 c81 c82 c83 c84 c85 c86
      c87 c88 c89 c90 c91 c92 c93 c94 c95 c96 c97 c98 c99 c100 c101 c102 c103 c104 c105 c106 c107 c108 c109 c110 c111
      c112 c113 c114 c115 c116 c117 c118 c119 c120 c121 c122 c123 c124 c125 c126 c127 d = f x := by
  refine pick_of_list f x hx ?_
  rw [List.range_eq_range']
  exact Each.eq_map f _ 0 h

end Cert.Net

end
-- ==== Proof.Table.lean ====
/- The kernel's constant table, entry by entry: its 9 rows of 8192 mark the lanes whose neighbour lies inside the image. -/
module

public import proofs.«01_k».proof.Proof.Pick
public import proofs.«01_k».proof.KernelIdeal

@[expose] public section

set_option maxRecDepth 100000

namespace Cert.Net

open Cert.KernelIdeal

/-- Position `q` of an image of 15 rows of 15, moved by `i - 1` rows and `j - 1` columns, is inside the image. -/
def inside (i j q : Nat) : Bool :=
  Nat.blt q 225 && (Nat.ble 1 (q / 15 + i) && Nat.ble (q / 15 + i) 15) && (Nat.ble 1 (q % 15 + j) && Nat.ble (q % 15 + j) 15)

/-- The word of 1.0 or the word of zero. -/
def bitWord (b : Bool) : BitVec 16 := cond b 0x3F80#16 0#16

/-- Entry `n` of the neighbour table: row `n / 8192` is the neighbour, the lane's position in its image is `n % 256`. -/
def maskEntry (n : Nat) : BitVec 16 := bitWord (inside (n / 8192 / 3) (n / 8192 % 3) (n % 8192 % 256))

/-- A number from its digits in base 128. -/
def digits (a b x : Nat) : Nat := 16384 * a + 128 * b + x

/-- A number is the number of its digits. -/
theorem digits_eq (n : Nat) : digits (n / 16384) (n / 128 % 128) (n % 128) = n := by
  unfold digits; omega

set_option maxHeartbeats 4000000 in
/-- The neighbour table. -/
theorem mask_table (n : Nat) (hn : n < 73728) : lit0t n = maskEntry n := by
  rw [← congrArg maskEntry (digits_eq n)]
  unfold lit0t
  split <;> rename_i h
  iterate 4
    · rw [h]
      refine pick_of_each (fun b => maskEntry (digits _ b (n % 128))) _ (Nat.mod_lt _ (by norm_num)) ?_
      repeat refine ⟨pick_of_list (fun x => maskEntry (digits _ _ x)) _ (Nat.mod_lt _ (by norm_num)) (by decide +kernel), ?_⟩
      trivial
  · rw [h]
    unfold lit0t1_4
    split <;> rename_i h'
    iterate 64
      · rw [h']
        exact pick_of_list (fun x => maskEntry (digits _ _ x)) _ (Nat.mod_lt _ (by norm_num)) (by decide +kernel)
    · simp only [imp_false] at *
      omega
  · simp only [imp_false] at *
    omega

end Cert.Net

end
-- ==== Proof.KernelValue.lean ====
/- The array the kernel's grid leaves: at block `t`, output `k`, column `b` the network's value of image `32 t + b`. -/
module

public import proofs.«01_k».proof.Proof.KernelBlock
public import proofs.«01_k».proof.Proof.Entry
public import proofs.«01_k».proof.Proof.Table

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

/-- The word of one or of zero is one or zero. -/
theorem bitWord_val (c : Bool) : Ideal.ofBits .bf16 (bitWord c) = if c then 1 else 0 := by
  cases c
  · exact Ideal.ofBits_zero_bf16
  · exact Ideal.ofBits_one_bf16

/-- Entry `u`, `p` of the neighbour table. -/
theorem mask_at (u : Fin 9) (p : Fin 8192) : lit0 (S9x8192.rowMajor (ix2 u p)) = maskEntry (u.val * 8192 + p.val) := by
  have hr : (S9x8192.rowMajor (ix2 u p)).val = u.val * 8192 + p.val := Shape.rowMajor_val_two _
  have ht := mask_table (u.val * 8192 + p.val) (by clear hr; omega)
  rw [← ht, ← hr]

/-- The neighbour table at the lane of row `y`, column `x` of an image. -/
theorem mask_val (b : Fin 32) (u : Fin 9) (i j : Fin 3) (y x : ℕ) (hy : y < 15) (hx : x < 15) (hu : u.val = 3 * i.val + j.val)
    (p : Fin 8192) (hp : p.val = 256 * b.val + 15 * y + x) :
    Ideal.ofBits .bf16 (lit0 (S9x8192.rowMajor (ix2 u p)))
      = (if (1 ≤ y + i ∧ y + i ≤ 15) ∧ (1 ≤ x + j ∧ x + j ≤ 15) then 1 else 0 : EReal) := by
  have hul := u.isLt
  have hpl := p.isLt
  have hi := i.isLt
  have hj := j.isLt
  have e1 : (u.val * 8192 + p.val) / 8192 / 3 = i.val := by omega
  have e2 : (u.val * 8192 + p.val) / 8192 % 3 = j.val := by omega
  have e3 : (u.val * 8192 + p.val) % 8192 % 256 = 15 * y + x := by omega
  have e4 : (15 * y + x) / 15 = y := by omega
  have e5 : (15 * y + x) % 15 = x := by omega
  have e6 : 15 * y + x < 225 := by omega
  rw [mask_at, maskEntry, bitWord_val, e1, e2, e3]
  refine if_congr ?_ rfl rfl
  simp only [inside, e4, e5, Bool.and_eq_true, Nat.blt_eq, Nat.ble_eq, e6, true_and]

variable (m : (ℓ : Loc nD τ sig) → Buf (Elt Ideal) ℓ)

/-- The network over the kernel's argument arrays. -/
def val (c : Dev nD) (n : Fin 1024) (k : Fin 2) : EReal :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n k

/-- The array the grid fills: 32 blocks of two rows of 32 images. -/
def grid (c : Dev nD) : FVec Ideal S32x2x32 .f32 := fun i =>
  val m c ⟨32 * (i 0).val + (i 2).val, by
    have h0 : (i 0).val < 32 := (i 0).isLt
    have h2 : (i 2).val < 32 := (i 2).isLt
    omega⟩ (i 1)

/-- What one grid point stores. -/
theorem point (c : Dev nD) (t : Fin cfg0.N) (k : Fin 2) (b : Fin 32) (hn : 32 * t.val + b.val < 1024) :
    out0_8 (F := Ideal) (iblk m c 0 t) (iblk m c 1 t) (iblk m c 2 t) (iblk m c 3 t) (iblk m c 4 t) (iblk m c 5 t) (iblk m c 6 t)
      (iblk m c 7 t) (ix3 0 k b) = val m c ⟨32 * t.val + b.val, hn⟩ k :=
  out_apply _ _ _ _ _ _ _ _ (fun ch y x hy hx => block0 m c t b ch y x hy hx hn)
    (fun u i j o ch hu => block1 m c t u i j o ch hu) (fun o => block2 m c t o)
    (fun u i j y x hy hx hu => (block3 m c t u _).trans (mask_val b u i j y x hy hx hu _ rfl))
    (fun o ch i j => block4 m c t o ch i j) (fun p => block5 m c t p b)
    (fun k o => block6 m c t k o) (fun k => block7 m c t k) k

/-- The array after the run. -/
theorem final (c : Dev nD) : (dats m 0 c).arrAt 8 (cfgs 0).N = grid m c := by
  refine (dats m 0 c).arrAt_eq_of_covers 8 _ (by decide +kernel) fun t _ y => ?_
  blk_simp
  rw [after0_8]
  revert y
  show ∀ y : S1x2x32.Idx, _
  intro y
  idx_vars y
  obtain rfl : y0 = 0 := Subsingleton.elim _ _
  have ht : t.val < 32 := t.isLt
  refine (point m c t y1 y2 (by omega)).trans ?_
  unfold grid
  refine congrArg₂ (val m c) (Fin.ext ?_) (Fin.ext ?_)
  · blk_simp [idx t]
    rfl
  · blk_simp [idx t]

end Cert.Net

end
-- ==== Proof.Tail.lean ====
/- The transpose and the reshape after the kernel's grid put output `k` of image `n` at row `n`, column `k`. -/
module

public import proofs.«01_k».proof.Proof.KernelValue

@[expose] public section

set_option maxRecDepth 16384

noncomputable section

open Idealize.ShloMosaic Idealize.ShloMosaic.TcCoe Idealize.SL.Sem

namespace Cert.Net

open Cert.KernelIdeal Cert.KernelIdeal.Gen

variable (m : (ℓ : Loc nD τ sig) → Buf (Elt Ideal) ℓ)

/-- The result array after the transpose and the reshape. -/
theorem tail_apply (c : Dev nD) (n : Fin 1024) (k : Fin 2) :
    shapeCast S1024x2 (transpose S32x32x2 [0, 2, 1] (grid m c) transposes_S32x2x32_S32x32x2_0_2_1) shapeCasts_S32x32x2_S1024x2 (ix2 n k) = val m c n k := by
  unfold grid
  pointwise
  exact congrArg (fun i => val m c i k) (Fin.ext (Nat.div_add_mod n.val 32))

/-- What the kernel returns. -/
def result (c : Dev nD) : FVec Ideal S1024x2 .f32 := fun i => val m c (i 0) (i 1)

/-- The result array when the program ends. -/
theorem after_tail (c : Dev nD) :
    Pipeline.afterTail₀ cfgs (dats m) 0 (V0 m) [hostOps1] c main_v0 = result m c := by
  have harr : Pipeline.withArrays (cfgs 0).spec c (V0 m c) (fun w => (dats m 0 c).arrAt w (cfgs 0).N) (Proc.devRef .tc main_call0_v18) = grid m c :=
    (Pipeline.withArrays_arr spec0 (by decide) c (V0 m c) (fun w => (dats m 0 c).arrAt w (cfgs 0).N) 8).trans (final m c)
  have hops : Pipeline.afterTail₀ cfgs (dats m) 0 (V0 m) [hostOps1] c main_v0
      = shapeCast S1024x2 (transpose S32x32x2 [0, 2, 1]
          (Pipeline.withArrays (cfgs 0).spec c (V0 m c) (fun w => (dats m 0 c).arrAt w (cfgs 0).N) (Proc.devRef .tc main_call0_v18) : FVec Ideal S32x2x32 .f32)
          transposes_S32x2x32_S32x32x2_0_2_1) shapeCasts_S32x32x2_S1024x2 := by
    unfold Pipeline.afterTail₀
    rfl
  rw [hops, harr]
  funext i
  idx_vars i
  exact tail_apply m c i0 i1

/-- The kernel runs, returns the network's values and leaves its arguments as they were. -/
theorem kernel_run (ρ : Dev nD → PrngReg) :
    θ_run (defs (F := Ideal)) (onTc (τ := τ) (main (F := Ideal))) ⟨m, fun _ => 0, ρ⟩ (fun r => (∀ c : Dev nD,
      r.2.mem ((c.tc : Thread nD τ).loc main_v0) = result m c)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_and
    ((θ_run defs _ _).mono (fun _ h c => ((h c).2 main_v0 (Pipeline.mem_restRefs_of main_v0 (by decide) (by decide))).trans (after_tail m c)) (run_main m ρ))
    (unchanged m ρ)

end Cert.Net

end
-- ==== Proof.RefConv.lean ====
/- What three groups of the reference's operations hold at one index: the padding, one tap of each convolution,
   and the 3x3 pooling. -/
module

public import proofs.«01_k».proof.Proof.Result
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.Net

open Cert.ReferenceIdeal Cert.ReferenceIdeal.Gen Cert.ReferenceIdeal.Value

/-- The images with one row and one column of zeros on every side. -/
theorem pad_apply (A : FVec Ideal S1024x200x15x15 .f32) (n : Fin 1024) (c : Fin 200) (y x : Fin 17) :
    pad S1024x200x17x17 ![0, 0, 1, 1] ![0, 0, 1, 1] ![0, 0, 0, 0] A (sitofp .f32 (constantI S_ 32 0#32))
      pads_S1024x200x15x15_S1024x200x17x17_000_000_110_110 h_S_ (ix4 n c y x)
      = padded (img A n) c y.val x.val := by
  unfold padded img
  pointwise
  have hz : (FloatOps.sitofp (F := Ideal) FTy.f32 0#32 : EReal) = 0 := by
    show ((((0#32).toInt : ℤ) : ℝ) : EReal) = 0
    simp
  split
  · rename_i h
    rw [if_pos (by omega)]
    simp only [Nat.mod_eq_of_lt h.1.2, Nat.mod_eq_of_lt h.2.2]
  · rename_i h
    rw [hz, if_neg (by omega)]

/-- One tap of the first convolution: the sum over the channels of a weight times the image moved by the tap. -/
theorem dot1_apply (p : FVec Ideal S1024x200x17x17 .f32) (w : FVec Ideal S16x200x3x3 .f32) (i j : Fin 3)
    (h₁ : Shape.Slices S1024x200x17x17 ![0, 0, i.val, j.val] S1024x200x15x15) (h₂ : Shape.Slices S16x200x3x3 ![0, 0, i.val, j.val] S16x200x1x1)
    (n : Fin 1024) (o : Fin 16) (y x : Fin 15) :
    transpose S1024x16x15x15 [0, 3, 1, 2] (Host.dotGeneral (F := Ideal) (φ₁ := .f32) (φ₂ := .f32) dot_S1024x200x15x15_S16x200_S1024x15x15x16_1_1_023_0_n_n none
      (extractStridedSlice S1024x200x15x15 ![0, 0, i.val, j.val] p h₁)
      (shapeCast S16x200 (extractStridedSlice S16x200x1x1 ![0, 0, i.val, j.val] w h₂) shapeCasts_S16x200x1x1_S16x200))
      transposes_S1024x15x15x16_S1024x16x15x15_0_3_1_2 (ix4 n o y x)
    = (∑ c, w (ix4 o c i j) * p (ix4 n c ⟨y.val + i.val, by omega⟩ ⟨x.val + j.val, by omega⟩) : EReal) := by
  pointwise
  refine Finset.sum_congr rfl fun c _ => ?_
  rw [mul_comm]
  simp only [Nat.add_comm]

/-- One tap of the second convolution. -/
theorem dot2_apply (p : FVec Ideal S1024x16x7x7 .f32) (w : FVec Ideal S32x16x5x5 .f32) (i j : Fin 5)
    (h₁ : Shape.Slices S1024x16x7x7 ![0, 0, i.val, j.val] S1024x16x3x3) (h₂ : Shape.Slices S32x16x5x5 ![0, 0, i.val, j.val] S32x16x1x1)
    (n : Fin 1024) (o : Fin 32) (y x : Fin 3) :
    transpose S1024x32x3x3 [0, 3, 1, 2] (Host.dotGeneral (F := Ideal) (φ₁ := .f32) (φ₂ := .f32) dot_S1024x16x3x3_S32x16_S1024x3x3x32_1_1_023_0_n_n none
      (extractStridedSlice S1024x16x3x3 ![0, 0, i.val, j.val] p h₁)
      (shapeCast S32x16 (extractStridedSlice S32x16x1x1 ![0, 0, i.val, j.val] w h₂) shapeCasts_S32x16x1x1_S32x16))
      transposes_S1024x3x3x32_S1024x32x3x3_0_3_1_2 (ix4 n o y x)
    = (∑ c, w (ix4 o c i j) * p (ix4 n c ⟨y.val + i.val, by omega⟩ ⟨x.val + j.val, by omega⟩) : EReal) := by
  pointwise
  refine Finset.sum_congr rfl fun c _ => ?_
  rw [mul_comm]
  simp only [Nat.add_comm]

/-- The place of the `n`-th position of a 3x3 window: row `n / 3`, column `n % 3`. -/
theorem window_place (n : Fin (⟨4, ![1, 1, 3, 3]⟩ : Shape).numel) :
    ((⟨4, ![1, 1, 3, 3]⟩ : Shape).rowMajor.symm n 0).val = 0 ∧ ((⟨4, ![1, 1, 3, 3]⟩ : Shape).rowMajor.symm n 1).val = 0
      ∧ ((⟨4, ![1, 1, 3, 3]⟩ : Shape).rowMajor.symm n 2).val = n.val / 3 ∧ ((⟨4, ![1, 1, 3, 3]⟩ : Shape).rowMajor.symm n 3).val = n.val % 3 := by
  have key : ∀ i : (⟨4, ![1, 1, 3, 3]⟩ : Shape).Idx, (i 0).val = 0 ∧ (i 1).val = 0
      ∧ (i 2).val = ((⟨4, ![1, 1, 3, 3]⟩ : Shape).rowMajor i).val / 3 ∧ (i 3).val = ((⟨4, ![1, 1, 3, 3]⟩ : Shape).rowMajor i).val % 3 := by
    intro i
    rw [Shape.rowMajor_val_four i]
    have h0 : (i 0).val < 1 := (i 0).isLt
    have h1 : (i 1).val < 1 := (i 1).isLt
    have h2 : (i 2).val < 3 := (i 2).isLt
    have h3 : (i 3).val < 3 := (i 3).isLt
    show _ ∧ _ ∧ (i 2).val = ((((i 0).val * 1 + (i 1).val) * 3 + (i 2).val) * 3 + (i 3).val) / 3
      ∧ (i 3).val = ((((i 0).val * 1 + (i 1).val) * 3 + (i 2).val) * 3 + (i 3).val) % 3
    omega
  have := key ((⟨4, ![1, 1, 3, 3]⟩ : Shape).rowMajor.symm n)
  rwa [Equiv.apply_symm_apply] at this

/-- Nine maxima taken in order, from the least value. -/
theorem nine (N : ℕ) (hN : N = 9) (G : ℕ → EReal) :
    (List.finRange N).foldl (fun r n => max r (G n.val)) ⊥
      = max (max (max (max (G 0) (G 1)) (G 2)) (max (max (G 3) (G 4)) (G 5))) (max (max (G 6) (G 7)) (G 8)) := by
  subst hN
  simp [List.finRange_succ, max_assoc]

/-- The pooling of an array whose rows and columns are given by a function of two numbers. -/
theorem window_apply {N C H D : ℕ} (f : FVec Ideal ⟨4, ![N, C, H, H]⟩ .f32) (v : FVec Ideal S_ .f32) (hv : v ix0 = ⊥)
    (h : (⟨4, ![N, C, H, H]⟩ : Shape).ReduceWindows ![1, 1, 3, 3] ![1, 1, 2, 2] ![0, 0, 0, 0] ![0, 0, 0, 0] ⟨4, ![N, C, D, D]⟩)
    (hD : 2 * D + 1 ≤ H) (g : ℕ → ℕ → EReal) (n : Fin N) (c : Fin C) (y x : Fin D)
    (hg : ∀ Y X : Fin H, f (ix4 n c Y X) = g Y.val X.val) :
    Host.reduceWindow (α := EReal) (FloatOps.maximumf (F := Ideal) (φ := .f32)) ![1, 1, 3, 3] ![1, 1, 2, 2] ![0, 0, 0, 0] ![0, 0, 0, 0] f v h h_S_ (ix4 n c y x) = pool g y.val x.val := by
  have hs : v (Shape.Idx.first h_S_) = ⊥ := (congrArg v (funext fun a => a.elim0)).trans hv
  have hy := y.isLt
  have hx := x.isLt
  unfold Host.reduceWindow
  dsimp only
  rw [hs]
  refine Eq.trans (congrArg (fun F => List.foldl F ⊥ _) (funext fun r => funext fun q => ?_))
    ((nine _ (by decide) fun q => g (2 * y.val + q / 3) (2 * x.val + q % 3)).trans ?_)
  · obtain ⟨e0, e1, e2, e3⟩ := window_place q
    have hq : q.val < 9 := q.isLt
    have hin : ∀ a : Fin 4, ((![0, 0, 0, 0] : Fin 4 → ℕ) a ≤ (ix4 n c y x a).val * (![1, 1, 2, 2] : Fin 4 → ℕ) a + ((⟨4, ![1, 1, 3, 3]⟩ : Shape).rowMajor.symm q a).val)
        ∧ (ix4 n c y x a).val * (![1, 1, 2, 2] : Fin 4 → ℕ) a + ((⟨4, ![1, 1, 3, 3]⟩ : Shape).rowMajor.symm q a).val - (![0, 0, 0, 0] : Fin 4 → ℕ) a < (![N, C, H, H] : Fin 4 → ℕ) a := by
      intro a
      match a with
      | ⟨0, _⟩ =>
        refine ⟨Nat.zero_le _, ?_⟩
        show n.val * 1 + ((⟨4, ![1, 1, 3, 3]⟩ : Shape).rowMajor.symm q 0).val - 0 < N
        rw [e0]
        omega
      | ⟨1, _⟩ =>
        refine ⟨Nat.zero_le _, ?_⟩
        show c.val * 1 + ((⟨4, ![1, 1, 3, 3]⟩ : Shape).rowMajor.symm q 1).val - 0 < C
        rw [e1]
        omega
      | ⟨2, _⟩ =>
        refine ⟨Nat.zero_le _, ?_⟩
        show y.val * 2 + ((⟨4, ![1, 1, 3, 3]⟩ : Shape).rowMajor.symm q 2).val - 0 < H
        rw [e2]
        omega
      | ⟨3, _⟩ =>
        refine ⟨Nat.zero_le _, ?_⟩
        show x.val * 2 + ((⟨4, ![1, 1, 3, 3]⟩ : Shape).rowMajor.symm q 3).val - 0 < H
        rw [e3]
        omega
    refine congrArg (max r) ((dif_pos hin).trans ?_)
    refine (congrArg f (funext fun a => Fin.ext ?_)).trans (hg ⟨2 * y.val + q.val / 3, by omega⟩ ⟨2 * x.val + q.val % 3, by omega⟩)
    match a with
    | ⟨0, _⟩ =>
      show n.val * 1 + ((⟨4, ![1, 1, 3, 3]⟩ : Shape).rowMajor.symm q 0).val - 0 = n.val
      rw [e0]
      omega
    | ⟨1, _⟩ =>
      show c.val * 1 + ((⟨4, ![1, 1, 3, 3]⟩ : Shape).rowMajor.symm q 1).val - 0 = c.val
      rw [e1]
      omega
    | ⟨2, _⟩ =>
      show y.val * 2 + ((⟨4, ![1, 1, 3, 3]⟩ : Shape).rowMajor.symm q 2).val - 0 = 2 * y.val + q.val / 3
      rw [e2]
      omega
    | ⟨3, _⟩ =>
      show x.val * 2 + ((⟨4, ![1, 1, 3, 3]⟩ : Shape).rowMajor.symm q 3).val - 0 = 2 * x.val + q.val % 3
      rw [e3]
      omega
  · rfl

end Cert.Net

end
-- ==== Proof.RefValue.lean ====
/- The reference's named intermediate arrays, each at one index, as the network's own mathematics. -/
module

public import proofs.«01_k».proof.Proof.RefConv

@[expose] public section

set_option maxRecDepth 16384

noncomputable section

open Idealize.ShloMosaic Idealize.ShloMosaic.TcCoe Idealize.SL.Sem Idealize.ShloMosaic.StableHlo

namespace Cert.Net

open Cert.ReferenceIdeal Cert.ReferenceIdeal.Gen Cert.ReferenceIdeal.Value

/-- The array of one tap of the first convolution. -/
@[reducible] def tapArr1 (p : FVec Ideal S1024x200x17x17 .f32) (w : FVec Ideal S16x200x3x3 .f32) (i j : Fin 3)
    (h₁ : Shape.Slices S1024x200x17x17 ![0, 0, i.val, j.val] S1024x200x15x15) (h₂ : Shape.Slices S16x200x3x3 ![0, 0, i.val, j.val] S16x200x1x1) :
    FVec Ideal S1024x16x15x15 .f32 :=
  transpose S1024x16x15x15 [0, 3, 1, 2] (Host.dotGeneral (F := Ideal) (φ₁ := .f32) (φ₂ := .f32) dot_S1024x200x15x15_S16x200_S1024x15x15x16_1_1_023_0_n_n none
    (extractStridedSlice S1024x200x15x15 ![0, 0, i.val, j.val] p h₁)
    (shapeCast S16x200 (extractStridedSlice S16x200x1x1 ![0, 0, i.val, j.val] w h₂) shapeCasts_S16x200x1x1_S16x200))
    transposes_S1024x15x15x16_S1024x16x15x15_0_3_1_2

/-- The array of one tap of the second convolution. -/
@[reducible] def tapArr2 (p : FVec Ideal S1024x16x7x7 .f32) (w : FVec Ideal S32x16x5x5 .f32) (i j : Fin 5)
    (h₁ : Shape.Slices S1024x16x7x7 ![0, 0, i.val, j.val] S1024x16x3x3) (h₂ : Shape.Slices S32x16x5x5 ![0, 0, i.val, j.val] S32x16x1x1) :
    FVec Ideal S1024x32x3x3 .f32 :=
  transpose S1024x32x3x3 [0, 3, 1, 2] (Host.dotGeneral (F := Ideal) (φ₁ := .f32) (φ₂ := .f32) dot_S1024x16x3x3_S32x16_S1024x3x3x32_1_1_023_0_n_n none
    (extractStridedSlice S1024x16x3x3 ![0, 0, i.val, j.val] p h₁)
    (shapeCast S32x16 (extractStridedSlice S32x16x1x1 ![0, 0, i.val, j.val] w h₂) shapeCasts_S32x16x1x1_S32x16))
    transposes_S1024x3x3x32_S1024x32x3x3_0_3_1_2

/-- A row of three taps added to an array. -/
theorem row1_apply (u : FVec Ideal S1024x16x15x15 .f32) (p : FVec Ideal S1024x200x17x17 .f32) (w : FVec Ideal S16x200x3x3 .f32) (i : Fin 3)
    (h₁ : ∀ j : Fin 3, Shape.Slices S1024x200x17x17 ![0, 0, i.val, j.val] S1024x200x15x15)
    (h₂ : ∀ j : Fin 3, Shape.Slices S16x200x3x3 ![0, 0, i.val, j.val] S16x200x1x1)
    (n : Fin 1024) (o : Fin 16) (y x : Fin 15) :
    addf (addf (addf u (tapArr1 p w i 0 (h₁ 0) (h₂ 0))) (tapArr1 p w i 1 (h₁ 1) (h₂ 1))) (tapArr1 p w i 2 (h₁ 2) (h₂ 2)) (ix4 n o y x)
      = (u (ix4 n o y x) + ∑ j : Fin 3, ∑ c, w (ix4 o c i j) * p (ix4 n c ⟨y.val + i.val, by omega⟩ ⟨x.val + j.val, by omega⟩) : EReal) := by
  rw [Fin.sum_univ_three, ← dot1_apply p w i 0 (h₁ 0) (h₂ 0), ← dot1_apply p w i 1 (h₁ 1) (h₂ 1), ← dot1_apply p w i 2 (h₁ 2) (h₂ 2)]
  simp only [← add_assoc]
  rfl

/-- A row of five taps added to an array. -/
theorem row2_apply (u : FVec Ideal S1024x32x3x3 .f32) (p : FVec Ideal S1024x16x7x7 .f32) (w : FVec Ideal S32x16x5x5 .f32) (i : Fin 5)
    (h₁ : ∀ j : Fin 5, Shape.Slices S1024x16x7x7 ![0, 0, i.val, j.val] S1024x16x3x3)
    (h₂ : ∀ j : Fin 5, Shape.Slices S32x16x5x5 ![0, 0, i.val, j.val] S32x16x1x1)
    (n : Fin 1024) (o : Fin 32) (y x : Fin 3) :
    addf (addf (addf (addf (addf u (tapArr2 p w i 0 (h₁ 0) (h₂ 0))) (tapArr2 p w i 1 (h₁ 1) (h₂ 1))) (tapArr2 p w i 2 (h₁ 2) (h₂ 2)))
        (tapArr2 p w i 3 (h₁ 3) (h₂ 3))) (tapArr2 p w i 4 (h₁ 4) (h₂ 4)) (ix4 n o y x)
      = (u (ix4 n o y x) + ∑ j : Fin 5, ∑ c, w (ix4 o c i j) * p (ix4 n c ⟨y.val + i.val, by omega⟩ ⟨x.val + j.val, by omega⟩) : EReal) := by
  rw [Fin.sum_univ_five, ← dot2_apply p w i 0 (h₁ 0) (h₂ 0), ← dot2_apply p w i 1 (h₁ 1) (h₂ 1), ← dot2_apply p w i 2 (h₁ 2) (h₂ 2),
    ← dot2_apply p w i 3 (h₁ 3) (h₂ 3), ← dot2_apply p w i 4 (h₁ 4) (h₂ 4)]
  simp only [← add_assoc]
  rfl

/-- The slices of the first convolution's taps. -/
theorem slices1 (i j : Fin 3) : Shape.Slices S1024x200x17x17 ![0, 0, i.val, j.val] S1024x200x15x15
    ∧ Shape.Slices S16x200x3x3 ![0, 0, i.val, j.val] S16x200x1x1 := by
  revert i j
  decide

/-- The slices of the second convolution's taps. -/
theorem slices2 (i j : Fin 5) : Shape.Slices S1024x16x7x7 ![0, 0, i.val, j.val] S1024x16x3x3
    ∧ Shape.Slices S32x16x5x5 ![0, 0, i.val, j.val] S32x16x1x1 := by
  revert i j
  decide

variable (V : Valuation τ sig (Elt Ideal))

/-- One image, of the reference's arguments. -/
abbrev refX (n : Fin 1024) : Fin 200 → ℕ → ℕ → EReal := img (V (Proc.devRef .tc main_arg0)) n

/-- The first convolution's weights. -/
abbrev refW1 (o : Fin 16) (c : Fin 200) (i j : Fin 3) : EReal := V (Proc.devRef .tc main_arg1) (ix4 o c i j)

/-- The first convolution's bias. -/
abbrev refB1 (o : Fin 16) : EReal := V (Proc.devRef .tc main_arg2) (ix1 o)

/-- The second convolution's weights. -/
abbrev refW2 (o : Fin 32) (c : Fin 16) (i j : Fin 5) : EReal := V (Proc.devRef .tc main_arg3) (ix4 o c i j)

/-- The linear layer's weights. -/
abbrev refWl (k : Fin 2) (c : Fin 32) : EReal := V (Proc.devRef .tc main_arg4) (ix2 k c)

/-- The linear layer's bias. -/
abbrev refBl (k : Fin 2) : EReal := V (Proc.devRef .tc main_arg5) (ix1 k)

/-- The first convolution without its bias. -/
theorem v55_apply (n : Fin 1024) (o : Fin 16) (y x : Fin 15) :
    (res_main_v55 V (ix4 n o y x) : EReal) = ∑ i : Fin 3, ∑ j : Fin 3, tap (refX V n) (refW1 V) o i j y.val x.val := by
  have hz : (broadcastInDim S1024x16x15x15 ![] bcast_S_S1024x16x15x15 (constant (F := Ideal) S_ .f32 0x00000000#32) (ix4 n o y x) : EReal) = 0 := by
    pointwise
  have hp : ∀ (c : Fin 200) (Y X : Fin 17), (res_main_v0 V (ix4 n c Y X) : EReal) = padded (refX V n) c Y.val X.val :=
    fun c Y X => pad_apply _ n c Y X
  unfold res_main_v55
  refine (row1_apply _ _ _ 2 (fun j => (slices1 2 j).1) (fun j => (slices1 2 j).2) n o y x).trans ?_
  refine (congrArg (· + _) ((row1_apply _ _ _ 1 (fun j => (slices1 1 j).1) (fun j => (slices1 1 j).2) n o y x).trans
    (congrArg (· + _) ((row1_apply _ _ _ 0 (fun j => (slices1 0 j).1) (fun j => (slices1 0 j).2) n o y x).trans (congrArg (· + _) hz))))).trans ?_
  rw [Fin.sum_univ_three (fun i : Fin 3 => ∑ j : Fin 3, tap (refX V n) (refW1 V) o i j y.val x.val), zero_add]
  unfold tap
  simp only [hp]

/-- The pooled first convolution. -/
theorem v60_apply (n : Fin 1024) (o : Fin 16) (y x : Fin 7) :
    (res_main_v60 V (ix4 n o y x) : EReal) = pool (conv1 (refX V n) (refW1 V) (refB1 V) o) y.val x.val := by
  unfold res_main_v60
  refine window_apply _ _ ?_ _ (by decide) _ n o y x fun Y X => ?_
  · pointwise
    exact negInf_bits
  · refine congrArg₂ (· + ·) (v55_apply V n o Y X) ?_
    pointwise

/-- The second convolution's first two rows of taps. -/
theorem v121_apply (n : Fin 1024) (o : Fin 32) (y x : Fin 3) :
    (res_main_v121 V (ix4 n o y x) : EReal)
      = (∑ j : Fin 5, ∑ c, refW2 V o c 0 j * pool (conv1 (refX V n) (refW1 V) (refB1 V) c) (y.val + (0 : Fin 5).val) (x.val + j.val))
        + ∑ j : Fin 5, ∑ c, refW2 V o c 1 j * pool (conv1 (refX V n) (refW1 V) (refB1 V) c) (y.val + (1 : Fin 5).val) (x.val + j.val) := by
  have hz : (broadcastInDim S1024x32x3x3 ![] bcast_S_S1024x32x3x3 (constant (F := Ideal) S_ .f32 0x00000000#32) (ix4 n o y x) : EReal) = 0 := by
    pointwise
  unfold res_main_v121
  refine (row2_apply _ _ _ 1 (fun j => (slices2 1 j).1) (fun j => (slices2 1 j).2) n o y x).trans ?_
  refine (congrArg (· + _) ((row2_apply _ _ _ 0 (fun j => (slices2 0 j).1) (fun j => (slices2 0 j).2) n o y x).trans (congrArg (· + _) hz))).trans ?_
  rw [zero_add]
  simp only [v60_apply]

/-- The second convolution's first four rows of taps. -/
theorem v181_apply (n : Fin 1024) (o : Fin 32) (y x : Fin 3) :
    (res_main_v181 V (ix4 n o y x) : EReal)
      = (∑ j : Fin 5, ∑ c, refW2 V o c 0 j * pool (conv1 (refX V n) (refW1 V) (refB1 V) c) (y.val + (0 : Fin 5).val) (x.val + j.val))
        + (∑ j : Fin 5, ∑ c, refW2 V o c 1 j * pool (conv1 (refX V n) (refW1 V) (refB1 V) c) (y.val + (1 : Fin 5).val) (x.val + j.val))
        + (∑ j : Fin 5, ∑ c, refW2 V o c 2 j * pool (conv1 (refX V n) (refW1 V) (refB1 V) c) (y.val + (2 : Fin 5).val) (x.val + j.val))
        + ∑ j : Fin 5, ∑ c, refW2 V o c 3 j * pool (conv1 (refX V n) (refW1 V) (refB1 V) c) (y.val + (3 : Fin 5).val) (x.val + j.val) := by
  unfold res_main_v181
  refine (row2_apply _ _ _ 3 (fun j => (slices2 3 j).1) (fun j => (slices2 3 j).2) n o y x).trans ?_
  refine (congrArg (· + _) ((row2_apply _ _ _ 2 (fun j => (slices2 2 j).1) (fun j => (slices2 2 j).2) n o y x).trans
    (congrArg (· + _) (v121_apply V n o y x)))).trans ?_
  simp only [v60_apply]

/-- The second convolution: the four rows and the fifth. -/
def res_conv2 : FVec Ideal S1024x32x3x3 .f32 :=
  addf (addf (addf (addf (addf (res_main_v181 V) (tapArr2 (res_main_v60 V) (V (Proc.devRef .tc main_arg3)) 4 0 (slices2 4 0).1 (slices2 4 0).2))
    (tapArr2 (res_main_v60 V) (V (Proc.devRef .tc main_arg3)) 4 1 (slices2 4 1).1 (slices2 4 1).2))
    (tapArr2 (res_main_v60 V) (V (Proc.devRef .tc main_arg3)) 4 2 (slices2 4 2).1 (slices2 4 2).2))
    (tapArr2 (res_main_v60 V) (V (Proc.devRef .tc main_arg3)) 4 3 (slices2 4 3).1 (slices2 4 3).2))
    (tapArr2 (res_main_v60 V) (V (Proc.devRef .tc main_arg3)) 4 4 (slices2 4 4).1 (slices2 4 4).2)

/-- It is the second convolution. -/
theorem conv2_apply (n : Fin 1024) (o : Fin 32) (y x : Fin 3) :
    (res_conv2 V (ix4 n o y x) : EReal) = conv2 (refX V n) (refW1 V) (refB1 V) (refW2 V) o y.val x.val := by
  unfold res_conv2 conv2
  refine (row2_apply _ _ _ 4 (fun j => (slices2 4 j).1) (fun j => (slices2 4 j).2) n o y x).trans ?_
  refine (congrArg (fun a : EReal => a + _) (v181_apply V n o y x)).trans ?_
  rw [Fin.sum_univ_five (fun i : Fin 5 => ∑ j : Fin 5, ∑ c, refW2 V o c i j * pool (conv1 (refX V n) (refW1 V) (refB1 V) c) (y.val + i.val) (x.val + j.val))]
  simp only [v60_apply]

/-- The linear layer's products: the sum over the 32 pooled values. -/
theorem dot3_apply (p : FVec Ideal S1024x32x1x1 .f32) (w : FVec Ideal S2x32 .f32) (n : Fin 1024) (k : Fin 2) :
    Host.dotGeneral (F := Ideal) (φ₁ := .f32) (φ₂ := .f32) dot_S1024x32_S32x2_S1024x2_1_0_0_1_n_n none
      (shapeCast S1024x32 p shapeCasts_S1024x32x1x1_S1024x32) (transpose S32x2 [1, 0] w transposes_S2x32_S32x2_1_0) (ix2 n k)
    = (∑ c, w (ix2 k c) * p (ix4 n c 0 0) : EReal) := by
  pointwise
  exact Finset.sum_congr rfl fun c _ => mul_comm _ _

/-- The linear layer on the pooled second convolution. -/
theorem v219_apply (n : Fin 1024) (k : Fin 2) :
    (res_main_v219 V (ix2 n k) : EReal) = logit (refX V n) (refW1 V) (refB1 V) (refW2 V) (refWl V) (refBl V) k := by
  have hpool : ∀ c : Fin 32, (Host.reduceWindow (α := EReal) (FloatOps.maximumf (F := Ideal) (φ := .f32)) ![1, 1, 3, 3] ![1, 1, 2, 2] ![0, 0, 0, 0] ![0, 0, 0, 0]
      (res_conv2 V) (broadcastInDim S_ ![] bcast_S_S_ (constant (F := Ideal) S_ .f32 0xFF800000#32))
      reduceWindows_S1024x32x3x3_S1024x32x1x1_w1s1p0_0_w1s1p0_0_w3s2p0_0_w3s2p0_0 h_S_ (ix4 n c 0 0) : EReal)
      = pool (conv2 (refX V n) (refW1 V) (refB1 V) (refW2 V) c) 0 0 := by
    intro c
    refine window_apply _ _ ?_ _ (by decide) _ n c 0 0 fun Y X => conv2_apply V n c Y X
    pointwise
    exact negInf_bits
  unfold logit
  refine congrArg₂ (· + ·) ((dot3_apply _ _ n k).trans ?_) ?_
  · exact Finset.sum_congr rfl fun c _ => congrArg (fun a : EReal => refWl V k c * a) (hpool c)
  · pointwise

/-- The maximum of a row of two. -/
theorem max_apply (f : FVec Ideal S1024x2 .f32) (n : Fin 1024) :
    (Host.reduce (FloatOps.maximumf (F := Ideal) (φ := .f32)) f (constant (F := Ideal) S_ .f32 0xFF800000#32) reducesTo_S1024x2_S1024_d1 h_S_ (ix1 n) : EReal)
      = max (f (ix2 n 0)) (f (ix2 n 1)) := by
  pointwise
  exact fold_two _

/-- The exponentials of the softmax, for any two values in each row. -/
theorem exp_apply (f : FVec Ideal S1024x2 .f32) (n : Fin 1024) (k : Fin 2) :
    (Host.exp (subf f (broadcastInDim S1024x2 ![0, 1] bcast_S1024x1_S1024x2_0_1 (broadcastInDim S1024x1 ![0] bcast_S1024_S1024x1_0
      (maximumf (broadcastInDim S1024 ![] bcast_S_S1024 (constant (F := Ideal) S_ .f32 0xFF800000#32))
        (Host.reduce (FloatOps.maximumf (F := Ideal) (φ := .f32)) f (constant (F := Ideal) S_ .f32 0xFF800000#32) reducesTo_S1024x2_S1024_d1 h_S_))))) (ix2 n k) : EReal)
      = expShift (fun j => f (ix2 n j)) k := by
  unfold expShift
  pointwise
  rw [fold_two, negInf_bits, max_eq_right bot_le]

/-- The exponentials of the softmax. -/
theorem v226_apply (n : Fin 1024) (k : Fin 2) :
    (res_main_v226 V (ix2 n k) : EReal) = expShift (logit (refX V n) (refW1 V) (refB1 V) (refW2 V) (refWl V) (refBl V)) k := by
  have h : (fun j => res_main_v219 V (ix2 n j) : Fin 2 → EReal) = logit (refX V n) (refW1 V) (refB1 V) (refW2 V) (refWl V) (refBl V) :=
    funext fun j => v219_apply V n j
  exact (exp_apply (res_main_v219 V) n k).trans (congrArg (fun f => expShift f k) h)

/-- The reference's result at an image and an output. -/
theorem ref_apply (n : Fin 1024) (k : Fin 2) :
    (Host.divf (F := Ideal) (φ := .f32) (res_main_v226 V) (broadcastInDim S1024x2 ![0, 1] bcast_S1024x1_S1024x2_0_1
      (broadcastInDim S1024x1 ![0] bcast_S1024_S1024x1_0
        (Host.reduceAdd (F := Ideal) (φ := .f32) (res_main_v226 V) (constant S_ .f32 0x00000000#32) reducesTo_S1024x2_S1024_d1 h_S_))) (ix2 n k) : EReal)
      = net (V (Proc.devRef .tc main_arg0)) (V (Proc.devRef .tc main_arg1)) (V (Proc.devRef .tc main_arg2)) (V (Proc.devRef .tc main_arg3))
          (V (Proc.devRef .tc main_arg4)) (V (Proc.devRef .tc main_arg5)) n k := by
  unfold net softmax
  pointwise
  rw [Fin.sum_univ_two, v226_apply, v226_apply, v226_apply]

end Cert.Net

end
-- ==== Proof.lean ====
/- The certificate: the frames of the kernel, of the kernel over exact numbers and of the reference, and the equation
   of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import proofs.«01_k».proof.Proof.RefValue
public import Idealize.ShloMosaic.Adequacy
public import Idealize.ShloMosaic.Init

@[expose] public section

noncomputable section

namespace Cert.Proof

open Idealize.ShloMosaic Idealize.SL.Sem

/-- The reference runs, leaves its arguments as they were and has no semaphore to leave raised. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The kernel's result is the reference's, for any images, weights and biases. -/
theorem equal : Cert.algebraic_KernelIdeal_ReferenceIdeal (hKernelIdeal := Cert.KernelIdeal.Gen.facts)
    (hReferenceIdeal := Cert.ReferenceIdeal.Gen.facts) := by
  intro m ρ m' ρ' _ hagree
  refine ⟨Cert.Net.result m, (θ_run Cert.KernelIdeal.defs _ _).mono (fun _ h c => ⟨h.1 c, h.2 c⟩) (Cert.Net.kernel_run m ρ), ?_⟩
  refine (θ_run Cert.ReferenceIdeal.defs _ _).mono (fun _ h c => ⟨(h c).1.trans ?_, (h c).2⟩) (Cert.ReferenceIdeal.Value.run m' ρ')
  obtain ⟨e0, e1, e2, e3, e4, e5⟩ := hagree c
  funext i
  obtain ⟨n, k, rfl⟩ : ∃ (n : Fin 1024) (k : Fin 2), i = ix2 n k := ⟨i 0, i 1, eq_ix2 i⟩
  refine (Cert.Net.ref_apply (StableHlo.launchContents m' c) n k).trans ?_
  show Cert.Net.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) n k = Cert.Net.val m c n k
  rw [e0, e1, e2, e3, e4, e5]
  rfl

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal⟩

end Cert.Proof

end
